-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_request_KernelIdeal [hPre_proper_request_KernelIdeal : Cert.Pre_proper_request_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_proper_request_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_request_ReferenceIdeal [hPre_proper_request_ReferenceIdeal : Cert.Pre_proper_request_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_request_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_proper_request_KernelIdeal [hKernelIdeal : Cert.KernelIdeal.Facts] [hPre_proper_request_KernelIdeal : Cert.Pre_proper_request_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_request_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_proper_request_ReferenceIdeal [hReferenceIdeal : Cert.ReferenceIdeal.Facts] [hPre_proper_request_ReferenceIdeal : Cert.Pre_proper_request_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_request_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_proper_request_KernelIdeal [hKernelIdeal : Cert.KernelIdeal.Facts] [hReferenceIdeal : Cert.ReferenceIdeal.Facts] [hPre_proper_request_KernelIdeal : Cert.Pre_proper_request_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_request_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![64, 16, 8, 64]⟩ ⟨4, ![128, 16, 8, 64]⟩ (Layout.meshBlock [2, 4, 4] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![64, 16, 8, 64]⟩ ⟨4, ![128, 16, 8, 64]⟩ (Layout.meshBlock [2, 4, 4] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_proper_request_KernelIdeal : Cert.Pre_proper_request_KernelIdeal.Facts) (hPre_proper_request_ReferenceIdeal : Cert.Pre_proper_request_ReferenceIdeal.Facts),
    quiescent_Kernel (hKernel := hKernel)
    ∧ quiescent_KernelIdeal (hKernelIdeal := hKernelIdeal)
    ∧ quiescent_KernelIdeal_pre_proper_request_KernelIdeal (hKernelIdeal := hKernelIdeal) (hPre_proper_request_KernelIdeal := hPre_proper_request_KernelIdeal)
    ∧ quiescent_ReferenceIdeal (hReferenceIdeal := hReferenceIdeal)
    ∧ quiescent_ReferenceIdeal_pre_proper_request_ReferenceIdeal (hReferenceIdeal := hReferenceIdeal) (hPre_proper_request_ReferenceIdeal := hPre_proper_request_ReferenceIdeal)
    ∧ preserves_Kernel_KernelIdeal
    ∧ algebraic_KernelIdeal_ReferenceIdeal_pre_proper_request_KernelIdeal (hKernelIdeal := hKernelIdeal) (hReferenceIdeal := hReferenceIdeal) (hPre_proper_request_KernelIdeal := hPre_proper_request_KernelIdeal)
-- ==== Pre_proper_request_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8 : S_.BroadcastsInDim S8 (![] : Fin 0 → Fin S8.rank)
  reducesTo_S8_S_d0 : S8.ReducesTo [0] S_
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S64x16x8x64 : S_.BroadcastsInDim S64x16x8x64 (![] : Fin 0 → Fin S64x16x8x64.rank)
  reducesTo_S64x16x8x64_S_d0_1_2_3 : S64x16x8x64.ReducesTo [0, 1, 2, 3] S_

variable [Facts]

def fn_part1 {F : FTy → Type} [FloatOps F] (main_arg1 : FVec F S64x16x8x64 .f32) (main_v17 : IVec S_ 1) (main_v18 : FVec F S8x1x8x64 .f32) : IVec S_ 1 :=
  let main_cst : FVec F S_ .f32 := constant S_ .f32 0x7F800000#32
  let main_v19 : FVec F S8x1x8x64 .f32 := broadcastInDim S8x1x8x64 ![] bcast_S_S8x1x8x64 main_cst
  let main_v20 : IVec S8x1x8x64 1 := cmpf .olt main_v18 main_v19
  let main_c_4 : IVec S_ 1 := constantI S_ 1 1#1
  let main_v21 : IVec S_ 1 := (fun x v => Host.reduce IntOp.andi x v reducesTo_S8x1x8x64_S_d0_1_2_3 h_S_) main_v20 main_c_4
  let main_v22 : IVec S_ 1 := andi main_v17 main_v21
  let main_v23 : FVec F S64x16x8x64 .f32 := Host.absf main_arg1
  let main_cst_5 : FVec F S_ .f32 := constant S_ .f32 0x7F800000#32
  let main_v24 : FVec F S64x16x8x64 .f32 := broadcastInDim S64x16x8x64 ![] bcast_S_S64x16x8x64 main_cst_5
  let main_v25 : IVec S64x16x8x64 1 := cmpf .olt main_v23 main_v24
  let main_c_6 : IVec S_ 1 := constantI S_ 1 1#1
  let main_v26 : IVec S_ 1 := (fun x v => Host.reduce IntOp.andi x v reducesTo_S64x16x8x64_S_d0_1_2_3 h_S_) main_v25 main_c_6
  let main_v27 : IVec S_ 1 := andi main_v22 main_v26
  main_v27

def fn {F : FTy → Type} [FloatOps F] (main_arg0 : FVec F S8x1x8x64 .f32) (main_arg1 : FVec F S64x16x8x64 .f32) (main_arg2 : FVec F S64x16x8x64 .f32) (main_arg3 : IVec S8x64 32) (main_arg4 : IVec S8 32) : IVec S_ 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_v6 : IVec S8x64 1 := noti main_v5
  let main_c : IVec S_ 32 := constantI S_ 32 0#32
  let main_v7 : IVec S8x64 32 := broadcastInDim S8x64 ![] bcast_S_S8x64 main_c
  let main_v8 : IVec S8x64 1 := cmpi .sge main_arg3 main_v7
  let main_c_0 : IVec S_ 32 := constantI S_ 32 128#32
  let main_v9 : IVec S8x64 32 := broadcastInDim S8x64 ![] bcast_S_S8x64 main_c_0
  let main_v10 : IVec S8x64 1 := cmpi .slt main_arg3 main_v9
  let main_v11 : IVec S8x64 1 := andi main_v8 main_v10
  let main_v12 : IVec S8x64 1 := ori main_v6 main_v11
  let main_c_1 : IVec S_ 1 := constantI S_ 1 1#1
  let main_v13 : IVec S_ 1 := (fun x v => Host.reduce IntOp.andi x v reducesTo_S8x64_S_d0_1 h_S_) main_v12 main_c_1
  let main_c_2 : IVec S_ 32 := constantI S_ 32 0#32
  let main_v14 : IVec S8 32 := broadcastInDim S8 ![] bcast_S_S8 main_c_2
  let main_v15 : IVec S8 1 := cmpi .sgt main_arg4 main_v14
  let main_c_3 : IVec S_ 1 := constantI S_ 1 1#1
  let main_v16 : IVec S_ 1 := (fun x v => Host.reduce IntOp.andi x v reducesTo_S8_S_d0 h_S_) main_v15 main_c_3
  let main_v17 : IVec S_ 1 := andi main_v13 main_v16
  let main_v18 : FVec F S8x1x8x64 .f32 := Host.absf main_arg0
  fn_part1 (F := F) main_arg1 main_v17 main_v18
-- ==== Pre_proper_request_ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8 : S_.BroadcastsInDim S8 (![] : Fin 0 → Fin S8.rank)
  reducesTo_S8_S_d0 : S8.ReducesTo [0] S_
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S128x16x8x64 : S_.BroadcastsInDim S128x16x8x64 (![] : Fin 0 → Fin S128x16x8x64.rank)
  reducesTo_S128x16x8x64_S_d0_1_2_3 : S128x16x8x64.ReducesTo [0, 1, 2, 3] S_

variable [Facts]

def fn_part1 {F : FTy → Type} [FloatOps F] (main_arg1 : FVec F S128x16x8x64 .f32) (main_v17 : IVec S_ 1) (main_v18 : FVec F S8x1x8x64 .f32) : IVec S_ 1 :=
  let main_cst : FVec F S_ .f32 := constant S_ .f32 0x7F800000#32
  let main_v19 : FVec F S8x1x8x64 .f32 := broadcastInDim S8x1x8x64 ![] bcast_S_S8x1x8x64 main_cst
  let main_v20 : IVec S8x1x8x64 1 := cmpf .olt main_v18 main_v19
  let main_c_4 : IVec S_ 1 := constantI S_ 1 1#1
  let main_v21 : IVec S_ 1 := (fun x v => Host.reduce IntOp.andi x v reducesTo_S8x1x8x64_S_d0_1_2_3 h_S_) main_v20 main_c_4
  let main_v22 : IVec S_ 1 := andi main_v17 main_v21
  let main_v23 : FVec F S128x16x8x64 .f32 := Host.absf main_arg1
  let main_cst_5 : FVec F S_ .f32 := constant S_ .f32 0x7F800000#32
  let main_v24 : FVec F S128x16x8x64 .f32 := broadcastInDim S128x16x8x64 ![] bcast_S_S128x16x8x64 main_cst_5
  let main_v25 : IVec S128x16x8x64 1 := cmpf .olt main_v23 main_v24
  let main_c_6 : IVec S_ 1 := constantI S_ 1 1#1
  let main_v26 : IVec S_ 1 := (fun x v => Host.reduce IntOp.andi x v reducesTo_S128x16x8x64_S_d0_1_2_3 h_S_) main_v25 main_c_6
  let main_v27 : IVec S_ 1 := andi main_v22 main_v26
  main_v27

def fn {F : FTy → Type} [FloatOps F] (main_arg0 : FVec F S8x1x8x64 .f32) (main_arg1 : FVec F S128x16x8x64 .f32) (main_arg2 : FVec F S128x16x8x64 .f32) (main_arg3 : IVec S8x64 32) (main_arg4 : IVec S8 32) : IVec S_ 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_v6 : IVec S8x64 1 := noti main_v5
  let main_c : IVec S_ 32 := constantI S_ 32 0#32
  let main_v7 : IVec S8x64 32 := broadcastInDim S8x64 ![] bcast_S_S8x64 main_c
  let main_v8 : IVec S8x64 1 := cmpi .sge main_arg3 main_v7
  let main_c_0 : IVec S_ 32 := constantI S_ 32 128#32
  let main_v9 : IVec S8x64 32 := broadcastInDim S8x64 ![] bcast_S_S8x64 main_c_0
  let main_v10 : IVec S8x64 1 := cmpi .slt main_arg3 main_v9
  let main_v11 : IVec S8x64 1 := andi main_v8 main_v10
  let main_v12 : IVec S8x64 1 := ori main_v6 main_v11
  let main_c_1 : IVec S_ 1 := constantI S_ 1 1#1
  let main_v13 : IVec S_ 1 := (fun x v => Host.reduce IntOp.andi x v reducesTo_S8x64_S_d0_1 h_S_) main_v12 main_c_1
  let main_c_2 : IVec S_ 32 := constantI S_ 32 0#32
  let main_v14 : IVec S8 32 := broadcastInDim S8 ![] bcast_S_S8 main_c_2
  let main_v15 : IVec S8 1 := cmpi .sgt main_arg4 main_v14
  let main_c_3 : IVec S_ 1 := constantI S_ 1 1#1
  let main_v16 : IVec S_ 1 := (fun x v => Host.reduce IntOp.andi x v reducesTo_S8_S_d0 h_S_) main_v15 main_c_3
  let main_v17 : IVec S_ 1 := andi main_v13 main_v16
  let main_v18 : FVec F S8x1x8x64 .f32 := Host.absf main_arg0
  fn_part1 (F := F) main_arg1 main_v17 main_v18
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S64x64 : Shape := ⟨2, ![64, 64]⟩
abbrev S1024x512 : Shape := ⟨2, ![1024, 512]⟩
abbrev S8x1 : Shape := ⟨2, ![8, 1]⟩
abbrev S64x128 : Shape := ⟨2, ![64, 128]⟩
abbrev S_ : Shape := ⟨0, ![]⟩
abbrev S8x64x64 : Shape := ⟨3, ![8, 64, 64]⟩
abbrev S8x64x1 : Shape := ⟨3, ![8, 64, 1]⟩
abbrev S64x1024 : Shape := ⟨2, ![64, 1024]⟩
abbrev S8x1024 : Shape := ⟨2, ![8, 1024]⟩
abbrev S8x1x1024 : Shape := ⟨3, ![8, 1, 1024]⟩
abbrev S8x8x1024 : Shape := ⟨3, ![8, 8, 1024]⟩
abbrev S64x512 : Shape := ⟨2, ![64, 512]⟩
abbrev S64 : Shape := ⟨1, ![64]⟩
abbrev S64x1 : Shape := ⟨2, ![64, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x1x8x64, .f32⟩
  | .hbm, ⟨1, _⟩ => ⟨S64x16x8x64, .f32⟩
  | .hbm, ⟨2, _⟩ => ⟨S64x16x8x64, .f32⟩
  | .hbm, ⟨3, _⟩ => ⟨S8x64, .i32⟩
  | .hbm, ⟨4, _⟩ => ⟨S8, .i32⟩
  | .hbm, ⟨5, _⟩ => ⟨S64x64, .f32⟩
  | .hbm, ⟨6, _⟩ => ⟨S1024x512, .f32⟩
  | .hbm, ⟨7, _⟩ => ⟨S1024x512, .f32⟩
  | .hbm, ⟨8, _⟩ => ⟨S8x1, .i32⟩
  | .hbm, ⟨9, _⟩ => ⟨S8x1x8x64, .f32⟩
  | .local _ .vmem, ⟨0, _⟩ => ⟨S64x64, .f32⟩
  | .local _ .vmem, ⟨1, _⟩ => ⟨S1024x512, .f32⟩
  | .local _ .vmem, ⟨2, _⟩ => ⟨S1024x512, .f32⟩
  | .local _ .vmem, ⟨3, _⟩ => ⟨S8x64, .i32⟩
  | .local _ .vmem, ⟨4, _⟩ => ⟨S8x1, .i32⟩
  | .local _ .vmem, ⟨5, _⟩ => ⟨S8x1x8x64, .f32⟩
  | .local _ .vmem, ⟨6, _⟩ => ⟨S64x128, .f32⟩
  | .local _ .vmem, ⟨7, _⟩ => ⟨S64x128, .f32⟩
  | _, _ => ⟨S8x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_50 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_49 : BitVec 32 := 16#32
  let v160 : BitVec 32 := Scalar.muli v9 c16_i32_49
  let v161 : BitVec 32 := Scalar.addi c0_i32_50 v160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_51 : BitVec 32 := 4#32
  let v162 : BitVec 32 := Scalar.muli v5 c4_i32_51
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v164 : BitVec 32 := Scalar.muli v8 c1_i32_52
  let v165 : BitVec 32 := Scalar.addi v163 v164
  v165.toNat
def k0_dev2 (d0 : Dev nD) : Nat :=
  let c0_i32_55 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_54 : BitVec 32 := 16#32
  let v166 : BitVec 32 := Scalar.muli v9 c16_i32_54
  let v167 : BitVec 32 := Scalar.addi c0_i32_55 v166
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_56 : BitVec 32 := 4#32
  let v168 : BitVec 32 := Scalar.muli v5 c4_i32_56
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v170 : BitVec 32 := Scalar.muli v8 c1_i32_57
  let v171 : BitVec 32 := Scalar.addi v169 v170
  v171.toNat
abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8 : Shape := ⟨1, ![8]⟩
abbrev S_ : Shape := ⟨0, ![]⟩
abbrev S8x64x1 : Shape := ⟨3, ![8, 64, 1]⟩
abbrev S8x64x16x8x64 : Shape := ⟨5, ![8, 64, 16, 8, 64]⟩
abbrev S8x1024x8x64 : Shape := ⟨4, ![8, 1024, 8, 64]⟩
abbrev S64 : Shape := ⟨1, ![64]⟩
abbrev S1x64 : Shape := ⟨2, ![1, 64]⟩
abbrev S8x1 : Shape := ⟨2, ![8, 1]⟩
abbrev S8x64x16 : Shape := ⟨3, ![8, 64, 16]⟩
abbrev S8x1024 : Shape := ⟨2, ![8, 1024]⟩
abbrev S8x8x1x1024 : Shape := ⟨4, ![8, 8, 1, 1024]⟩
abbrev S8x1x1x1024 : Shape := ⟨4, ![8, 1, 1, 1024]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S128x16x8x64, .f32⟩
  | .hbm, ⟨2, _⟩ => ⟨S128x16x8x64, .f32⟩
  | .hbm, ⟨3, _⟩ => ⟨S8x64, .i32⟩
  | .hbm, ⟨4, _⟩ => ⟨S8, .i32⟩
  | .hbm, ⟨5, _⟩ => ⟨S_, .i32⟩
  | .hbm, ⟨6, _⟩ => ⟨S8x64, .i32⟩
  | .hbm, ⟨7, _⟩ => ⟨S8x64, .i1⟩
  | .hbm, ⟨8, _⟩ => ⟨S_, .i32⟩
  | .hbm, ⟨9, _⟩ => ⟨S8x64, .i32⟩
  | .hbm, ⟨10, _⟩ => ⟨S8x64, .i32⟩
  | .hbm, ⟨11, _⟩ => ⟨S8x64, .i32⟩
  | .hbm, ⟨12, _⟩ => ⟨S8x64x1, .i32⟩
  | .hbm, ⟨13, _⟩ => ⟨S8x64x16x8x64, .f32⟩
  | .hbm, ⟨14, _⟩ => ⟨S8x1024x8x64, .f32⟩
  | .hbm, ⟨15, _⟩ => ⟨S_, .i32⟩
  | .hbm, ⟨16, _⟩ => ⟨S8x64, .i32⟩
  | .hbm, ⟨17, _⟩ => ⟨S8x64, .i1⟩
  | .hbm, ⟨18, _⟩ => ⟨S_, .i32⟩
  | .hbm, ⟨19, _⟩ => ⟨S8x64, .i32⟩
  | .hbm, ⟨20, _⟩ => ⟨S8x64, .i32⟩
  | .hbm, ⟨21, _⟩ => ⟨S8x64, .i32⟩
  | .hbm, ⟨22, _⟩ => ⟨S8x64x1, .i32⟩
  | .hbm, ⟨23, _⟩ => ⟨S8x64x16x8x64, .f32⟩
  | .hbm, ⟨24, _⟩ => ⟨S8x1024x8x64, .f32⟩
  | .hbm, ⟨25, _⟩ => ⟨S64, .i32⟩
  | .hbm, ⟨26, _⟩ => ⟨S1x64, .i32⟩
  | .hbm, ⟨27, _⟩ => ⟨S8x1, .i32⟩
  | .hbm, ⟨28, _⟩ => ⟨S8x64, .i32⟩
  | .hbm, ⟨29, _⟩ => ⟨S8x64, .i32⟩
  | .hbm, ⟨30, _⟩ => ⟨S8x64, .i1⟩
  | .hbm, ⟨31, _⟩ => ⟨S8x64x16, .i1⟩
  | .hbm, ⟨32, _⟩ => ⟨S8x1024, .i1⟩
  | .hbm, ⟨33, _⟩ => ⟨S8x8x1x1024, .f32⟩
  | .hbm, ⟨34, _⟩ => ⟨S_, .f32⟩
  | .hbm, ⟨35, _⟩ => ⟨S8x8x1x1024, .f32⟩
  | .hbm, ⟨36, _⟩ => ⟨S8x8x1x1024, .f32⟩
  | .hbm, ⟨37, _⟩ => ⟨S8x1x1x1024, .i1⟩
  | .hbm, ⟨38, _⟩ => ⟨S_, .f32⟩
  | .hbm, ⟨39, _⟩ => ⟨S_, .f32⟩
  | .hbm, ⟨40, _⟩ => ⟨S8x8x1x1024, .i1⟩
  | .hbm, ⟨41, _⟩ => ⟨S8x8x1x1024, .f32⟩
  | .hbm, ⟨42, _⟩ => ⟨S8x8x1x1024, .f32⟩
  | .hbm, ⟨43, _⟩ => ⟨S_, .f32⟩
  | .hbm, ⟨44, _⟩ => ⟨S8x8x1, .f32⟩
  | .hbm, ⟨45, _⟩ => ⟨S8x8x1x1, .f32⟩
  | .hbm, ⟨46, _⟩ => ⟨S8x8x1x1024, .f32⟩
  | .hbm, ⟨47, _⟩ => ⟨S8x8x1x1024, .f32⟩
  | .hbm, ⟨48, _⟩ => ⟨S8x8x1x1024, .f32⟩
  | .hbm, ⟨49, _⟩ => ⟨S_, .f32⟩
  | .hbm, ⟨50, _⟩ => ⟨S8x8x1, .f32⟩
  | .hbm, ⟨51, _⟩ => ⟨S8x8x1x1, .f32⟩
  | .hbm, ⟨52, _⟩ => ⟨S8x8x1x1024, .f32⟩
  | .hbm, ⟨53, _⟩ => ⟨S8x8x1x1024, .f32⟩
  | .hbm, ⟨54, _⟩ => ⟨S8x8x64x1, .f32⟩
  | .hbm, ⟨55, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Swap.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Rounds
public import Idealize.ShloMosaic.Lib.ReshapeSlab
public import Idealize.ShloMosaic.Lib.Tactic

/-! The exchange between a device and the one across the first mesh axis: who the partner is, what each buffer holds,
    which semaphore is credited by whom, and what each credit hands over. -/

@[expose] public section

set_option maxRecDepth 16384

noncomputable section

namespace Cert.KernelIdeal.Swap

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

/-! ## The partner -/

/-- The device across the first mesh axis: the same second and third coordinates, the other half of the pages. -/
def mate (c : Dev nD) : Dev nD := ⟨(c.val + 16) % 32, Nat.mod_lt _ (by decide)⟩

theorem mate_mate (c : Dev nD) : mate (mate c) = c := by revert c; decide
def mateEquiv : Dev nD ≃ Dev nD := ⟨mate, mate, mate_mate, mate_mate⟩

/-- The word the kernel computes for the barrier signal names the partner. -/
theorem dev1_mate (c : Dev nD) : (⟨k0_dev1 c, k0_dev1_lt c⟩ : Dev nD) = mate c :=
  Fin.ext ((k0_dev1_eq c).trans (by revert c; decide))
/-- So does the word computed for the remote copy. -/
theorem dev2_mate (c : Dev nD) : (⟨k0_dev2 c, k0_dev2_lt c⟩ : Dev nD) = mate c :=
  Fin.ext ((k0_dev2_eq c).trans (by revert c; decide))

/-! ## What each device computes -/

variable (m : (ℓ : Loc nD τ sig) → Buf (Elt F) ℓ)

/-- The five operands as staged on device `c`: queries, keys, values, page table, page counts. -/
def inQ (c : Dev nD) : Vec F S64x64 .f32 := iblk m c 0 t0_0
def inK (c : Dev nD) : Vec F S1024x512 .f32 := iblk m c 1 t0_0
def inV (c : Dev nD) : Vec F S1024x512 .f32 := iblk m c 2 t0_0
def inT (c : Dev nD) : Vec F S8x64 .i32 := iblk m c 3 t0_0
def inL (c : Dev nD) : Vec F S8x1 .i32 := iblk m c 4 t0_0

/-- How often each of the device's keys is listed by each row's live page table, spread over rows and keys. -/
def wts (c : Dev nD) : FVec F S64x1024 .f32 :=
  k0_pay6 (k0_pay2 c (inL m c) (inT m c)) (iota .tc S64x1024 32 [0] iota_S64x1024_d0_w32) (iota .tc S64x1024 32 [1] iota_S64x1024_d1_w32)
    16#32 k0_pay3 k0_pay4 k0_pay5
/-- The column counter of the block-diagonal mask. -/
def cols : IVec S64x512 32 := iota .tc S64x512 32 [1] iota_S64x512_d1_w32
/-- The block-diagonal mask: which of the 512 feature columns belong to a row's head. -/
def diag : IVec S64x512 1 := k0_pay9 k0_pay8 cols
/-- The device's running maximum of the live scores. -/
def top (c : Dev nD) : FVec F S64x1 .f32 := k0_pay11 (wts m c) (k0_pay7 (inQ m c)) k0_pay8 cols (inK m c)
/-- The device's weighted exponentials. -/
def pes (c : Dev nD) : FVec F S64x1024 .f32 := k0_pay12 (wts m c) (k0_pay7 (inQ m c)) k0_pay8 cols (inK m c)
/-- Their row sums. -/
def den (c : Dev nD) : FVec F S64 .f32 := k0_pay13 (wts m c) (k0_pay7 (inQ m c)) k0_pay8 cols (inK m c)
/-- The numerators: the weighted exponentials against the values. -/
def num (c : Dev nD) : FVec F S64x64 .f32 := k0_pay15 diag (pes m c) (inV m c)

/-- The three things a device sends: numerators, maxima, row sums. -/
def sentNum (c : Dev nD) : FVec F S64x64 .f32 := k0_pay16 diag (pes m c) (inV m c)
def sentTop (c : Dev nD) : FVec F S64x1 .f32 := k0_pay17 (top m c)
def sentDen (c : Dev nD) : FVec F S64x1 .f32 := k0_pay18 (den m c)

/-- The attention block the device writes: its own share merged with its partner's. -/
def merged (c : Dev nD) : FVec F S8x1x8x64 .f32 :=
  k0_pay1 (top m c) (k0_pay14 (den m c)) (num m c) (sentNum m (mate c)) (sentTop m (mate c)) (sentDen m (mate c))

/-! ## The packed message -/

abbrev outM : Memref sig .tc .vmem S64x128 .f32 := Memref.whole cc0_scratch0
abbrev innM : Memref sig .tc .vmem S64x128 .f32 := Memref.whole cc0_scratch1

/-- Columns 0–63, column 64, column 65 of the message buffer. -/
abbrev rNum : Rect S64x128 := Rect.unit (s := S64x128) ![0, 0] S64x64.size inb_S64x128_S64x64_0_0
abbrev rTop : Rect S64x128 := Rect.unit (s := S64x128) ![0, 64] S64x1.size inb_S64x128_S64x1_0_64
abbrev rDen : Rect S64x128 := Rect.unit (s := S64x128) ![0, 65] S64x1.size inb_S64x128_S64x1_0_65

/-- A message buffer carries device `c`'s three parts; the other columns are not spoken of. -/
def Carries (c : Dev nD) (f : S64x128.Idx → Elt F .f32) : Prop :=
  (innM : Memref sig .tc .vmem S64x128 .f32).view.readAt (Elt F) rNum.toLoadRect f = sentNum m c
    ∧ (innM : Memref sig .tc .vmem S64x128 .f32).view.readAt (Elt F) rTop.toLoadRect f = sentTop m c
    ∧ (innM : Memref sig .tc .vmem S64x128 .f32).view.readAt (Elt F) rDen.toLoadRect f = sentDen m c

/-- The three stores, in the kernel's order, leave a message carrying the three parts, whatever was there before. -/
theorem carries_stores (c : Dev nD) (f : S64x128.Idx → Elt F .f32) :
    Carries m c (((outM : Memref sig .tc .vmem S64x128 .f32).access rDen).write (Elt F)
      (((outM : Memref sig .tc .vmem S64x128 .f32).access rTop).write (Elt F)
        (((outM : Memref sig .tc .vmem S64x128 .f32).access rNum).write (Elt F) f (sentNum m c) Finset.univ) (sentTop m c) Finset.univ)
      (sentDen m c) Finset.univ) := by
  have apart (r₁ r₂ : Rect S64x128) (h₁ : r₁.stride 1 = 1) (h₂ : r₂.stride 1 = 1)
      (h : r₁.off 1 + r₁.size 1 ≤ r₂.off 1 ∨ r₂.off 1 + r₂.size 1 ≤ r₁.off 1) :
      Disjoint ((outM : Memref sig .tc .vmem S64x128 .f32).view.slice r₁).set
        (((outM : Memref sig .tc .vmem S64x128 .f32).view.slice r₂).setOn Finset.univ) :=
    View.disjoint_slice_of_sep _ r₁ r₂ 1 h₁ h₂ h
  refine ⟨?_, ?_, ?_⟩
  · show ((outM : Memref sig .tc .vmem S64x128 .f32).view.slice rNum).read (Elt F) _ = _
    rw [View.read_slice_write_slice_of_disjoint _ _ _ _ _ (apart rNum rDen rfl rfl (.inl (by decide))),
      View.read_slice_write_slice_of_disjoint _ _ _ _ _ (apart rNum rTop rfl rfl (.inl (by decide)))]
    exact View.read_write_univ _ _
  · show ((outM : Memref sig .tc .vmem S64x128 .f32).view.slice rTop).read (Elt F) _ = _
    rw [View.read_slice_write_slice_of_disjoint _ _ _ _ _ (apart rTop rDen rfl rfl (.inl (by decide)))]
    exact View.read_write_univ _ _
  · show ((outM : Memref sig .tc .vmem S64x128 .f32).view.slice rDen).read (Elt F) _ = _
    exact View.read_write_univ _ _

/-! ## Cells and ownership -/

/-- The pipeline library's ghost algebra beside the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

abbrev 𝒱₀ : Variants := Variants.none

abbrev gateS : Sem sig := barrier0
abbrev outS : DmaSem sig := (cc0_scratch2 : DmaSems sig S_).sem
abbrev innS : DmaSem sig := (cc0_scratch3 : DmaSems sig S_).sem

/-- A device's barrier cell, the cell its own copy credits when it has left, and the cell the partner's copy credits on arrival. -/
abbrev gate (c : Dev nD) : GSem nD τ sig := ((c : Thread nD τ), .reg gateS)
abbrev left (c : Dev nD) : GSem nD τ sig := ((c : Thread nD τ), .dma outS)
abbrev landed (c : Dev nD) : GSem nD τ sig := ((c : Thread nD τ), .dma innS)

/-- The kernel's own two semaphores. -/
abbrev osem : Fin 2 → SemLoc sig := fun | 0 => .dma outS | 1 => .dma innS

/-- What one message's copy credits. -/
abbrev Nmsg : ℕ := (innM : Memref sig .tc .vmem S64x128 .f32).view.dmaCredit
theorem Nmsg_pos : 0 < Nmsg := View.dmaCredit_pos _ (by decide)

/-- A whole buffer of device `c` at contents `f`. -/
abbrev pt (c : Dev nD) (b : Ref sig .tc) (f : b.ty.Contents (Elt F)) : sProp 𝕄 := ((c : Thread nD τ).loc b) ↦{fullShare} f

/-- The two message buffers as the copy's source and target views hold them. -/
abbrev outPts (c : Dev nD) (f : Buf (Elt F) ((outM : Memref sig .tc .vmem S64x128 .f32).view.loc (c : Thread nD τ))) : sProp 𝕄 :=
  (outM : Memref sig .tc .vmem S64x128 .f32).view.loc (c : Thread nD τ) ↦[(outM : Memref sig .tc .vmem S64x128 .f32).view.set]{fullShare} f
abbrev innPts (c : Dev nD) (f : Buf (Elt F) ((innM : Memref sig .tc .vmem S64x128 .f32).view.loc (c : Thread nD τ))) : sProp 𝕄 :=
  (innM : Memref sig .tc .vmem S64x128 .f32).view.loc (c : Thread nD τ) ↦[(innM : Memref sig .tc .vmem S64x128 .f32).view.set]{fullShare} f

theorem outM_set : (outM : Memref sig .tc .vmem S64x128 .f32).view.set = Finset.univ := View.set_whole _
theorem innM_set : (innM : Memref sig .tc .vmem S64x128 .f32).view.set = Finset.univ := View.set_whole _
theorem outPts_eq (c : Dev nD) (f : (cc0_scratch0 : Ref sig .tc).ty.Contents (Elt F)) : (outPts c f : sProp 𝕄) = pt c cc0_scratch0 f := by
  unfold outPts; rw [outM_set]
theorem innPts_eq (c : Dev nD) (f : (cc0_scratch1 : Ref sig .tc).ty.Contents (Elt F)) : (innPts c f : sProp 𝕄) = pt c cc0_scratch1 f := by
  unfold innPts; rw [innM_set]

/-- A copied message is the message: both buffers are whole. -/
theorem msg_copied (fd : (cc0_scratch1 : Ref sig .tc).ty.Contents (Elt F)) (fs : (cc0_scratch0 : Ref sig .tc).ty.Contents (Elt F)) :
    (innM : Memref sig .tc .vmem S64x128 .f32).view.write (Elt F) fd ((outM : Memref sig .tc .vmem S64x128 .f32).view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

/-- The barrier unit on `c`'s gate, given by its partner: the partner's landing buffer, and that its arrival cell is open. -/
def gatePay (c : Dev nD) : sProp 𝕄 := iprop((∃ f, innPts (mate c) f) ∗ reached EX (landed (mate c)) 0)
/-- The credit of `c`'s departure cell: its message buffer back, at whatever it holds. -/
def leftPay (c : Dev nD) : sProp 𝕄 := iprop(∃ f, outPts c f)
/-- The credit of `c`'s arrival cell: its landing buffer back, carrying the partner's parts. -/
def landedPay (c : Dev nD) : sProp 𝕄 := iprop(∃ f, ⌜Carries m (mate c) f⌝ ∗ innPts c f)

/-- The cells of the exchange: on a TensorCore, the barrier and the kernel's two semaphores. -/
abbrev IsCell (g : GSem nD τ sig) : Prop := g.1.2 = .tc ∧ (g.2 = .reg gateS ∨ g.2 = .dma outS ∨ g.2 = .dma innS)

/-- One round, one duty a cell. -/
def plan : Rounds.Schedule (GSem nD τ sig) Unit 𝕄 where
  duties g r := if r = 0 ∧ IsCell g then {()} else ∅
  unitless _ := False
  amount g _ _ := if g.2 = .reg gateS then 1 else Nmsg
  payload g _ _ :=
    if g.2 = .reg gateS then gatePay g.1.1
    else if g.2 = .dma innS then landedPay m g.1.1
    else if g.2 = .dma outS then leftPay g.1.1
    else iprop(emp)
  amount_pos g _ _ _ := by
    by_cases h : g.2 = .reg gateS
    · rw [if_pos h]; exact Nat.one_pos
    · rw [if_neg h]; exact Nmsg_pos

instance plan_storable (g : GSem nD τ sig) (r : ℕ) (d : Unit) :
    BI.Storable (upEmb : UEmb _ 𝕄) ((plan (F := F) m).payload g r d) := by
  show BI.Storable upEmb (if g.2 = .reg gateS then gatePay g.1.1 else if g.2 = .dma innS then landedPay m g.1.1
    else if g.2 = .dma outS then leftPay g.1.1 else iprop(emp))
  unfold gatePay landedPay leftPay
  (repeat' split) <;> infer_instance

section Cells

variable (c : Dev nD)

theorem out_ne_gate : (SemLoc.dma outS : SemLoc sig) ≠ .reg gateS := fun h => by cases h
theorem inn_ne_gate : (SemLoc.dma innS : SemLoc sig) ≠ .reg gateS := fun h => by cases h
theorem out_ne_inn : (SemLoc.dma outS : SemLoc sig) ≠ .dma innS := by decide

theorem duty_gate : (plan (F := F) m).duties (gate c) 0 = {()} := by dsimp only [plan]; exact if_pos ⟨rfl, rfl, .inl rfl⟩
theorem duty_left : (plan (F := F) m).duties (left c) 0 = {()} := by dsimp only [plan]; exact if_pos ⟨rfl, rfl, .inr (.inl rfl)⟩
theorem duty_landed : (plan (F := F) m).duties (landed c) 0 = {()} := by dsimp only [plan]; exact if_pos ⟨rfl, rfl, .inr (.inr rfl)⟩
theorem duty_none (g : GSem nD τ sig) : ∀ r, 1 ≤ r → (plan (F := F) m).duties g r = ∅ :=
  fun r hr => by dsimp only [plan]; exact if_neg fun h => by omega

theorem units_gate (u : Unit) : (plan (F := F) m).amount (gate c) 0 u = 1 := by dsimp only [plan]; exact if_pos rfl
theorem units_left (u : Unit) : (plan (F := F) m).amount (left c) 0 u = Nmsg := by dsimp only [plan]; exact if_neg out_ne_gate
theorem units_landed (u : Unit) : (plan (F := F) m).amount (landed c) 0 u = Nmsg := by dsimp only [plan]; exact if_neg inn_ne_gate

theorem awaits_gate : (plan (F := F) m).expect (gate c) 0 = 1 := by
  unfold Schedule.expect Schedule.amountOf; rw [duty_gate, Finset.sum_singleton, units_gate]
theorem awaits_left : (plan (F := F) m).expect (left c) 0 = Nmsg := by
  unfold Schedule.expect Schedule.amountOf; rw [duty_left, Finset.sum_singleton, units_left]
theorem awaits_landed : (plan (F := F) m).expect (landed c) 0 = Nmsg := by
  unfold Schedule.expect Schedule.amountOf; rw [duty_landed, Finset.sum_singleton, units_landed]

theorem pays_gate (u : Unit) : (plan (F := F) m).payload (gate c) 0 u = gatePay c := by dsimp only [plan]; exact if_pos rfl
theorem pays_left (u : Unit) : (plan (F := F) m).payload (left c) 0 u = leftPay c := by
  dsimp only [plan]; rw [if_neg out_ne_gate, if_neg out_ne_inn, if_pos rfl]
theorem pays_landed (u : Unit) : (plan (F := F) m).payload (landed c) 0 u = landedPay m c := by
  dsimp only [plan]; rw [if_neg inn_ne_gate, if_pos rfl]

theorem due_gate : bigSep ((plan (F := F) m).duties (gate c) 0 \ ∅) (fun u => (plan (F := F) m).payload (gate c) 0 u) = gatePay c := by
  rw [Finset.sdiff_empty, duty_gate, bigSep_singleton, pays_gate]
theorem due_left : bigSep ((plan (F := F) m).duties (left c) 0 \ ∅) (fun u => (plan (F := F) m).payload (left c) 0 u) = leftPay c := by
  rw [Finset.sdiff_empty, duty_left, bigSep_singleton, pays_left]
theorem due_landed : bigSep ((plan (F := F) m).duties (landed c) 0 \ ∅) (fun u => (plan (F := F) m).payload (landed c) 0 u) = landedPay m c := by
  rw [Finset.sdiff_empty, duty_landed, bigSep_singleton, pays_landed]

end Cells

/-! ## Debts and levels -/

/-- What a device owes at the start: the credit of its partner's arrival cell and one unit of its partner's gate. -/
def debt (c : Dev nD) : CellTallies nD τ sig Unit := tallyAt (landed (mate c)) () Nmsg + tallyAt (gate (mate c)) () 1

def lset (g : GSem nD τ sig) : Finset Unit := if g.1.2 = .tc then {()} else ∅
/-- Gates below arrivals; everything else at the bottom. -/
def lev (g : GSem nD τ sig) (_ : Unit) : ℕ := if g.2 = .reg gateS then 1 else if g.2 = .dma innS then 2 else 0

theorem lset_of_ne (g : GSem nD τ sig) (h : g.1.2 ≠ .tc) : lset g = ∅ := if_neg h
theorem mem_lset (c : Dev nD) (sm : SemLoc sig) : () ∈ lset ((c : Thread nD τ), sm) := by
  unfold lset; rw [if_pos rfl]; exact Finset.mem_singleton_self _
theorem lev_gate (c : Dev nD) : lev (gate c) () = 1 := by unfold lev; exact if_pos rfl
theorem lev_landed (c : Dev nD) : lev (landed c) () = 2 := by unfold lev; rw [if_neg inn_ne_gate, if_pos rfl]

/-- A tally that is positive somewhere is positive at the one place it was put. -/
theorem tally_pos {g₀ g : GSem nD τ sig} {n : ℕ} {u : Unit} (h : 0 < tallyAt g₀ () n g u) : g = g₀ := by
  rw [tallyAt_apply] at h
  by_contra hg
  rw [if_neg fun hh => hg hh.1] at h
  exact absurd h (Nat.lt_irrefl 0)

theorem debt_pos {c : Dev nD} {g : GSem nD τ sig} {u : Unit} (h : 0 < debt c g u) : g = landed (mate c) ∨ g = gate (mate c) := by
  unfold debt at h
  rw [Pi.add_apply, Finsupp.add_apply] at h
  exact (Nat.add_pos_iff_pos_or_pos.mp h).imp tally_pos tally_pos

/-- A device may wait at its gate while it owes its partner's arrival. -/
theorem gate_waits (c : Dev nD) :
    (levAts lset lev : sProp 𝕄) ⊢ MayWait (c : Thread nD τ) (.reg gateS) () (tallyAt (landed (mate c)) () Nmsg) :=
  MayOwe.of_cut (L := lset) (lev := lev) 1 (fun p hp => by rw [Finset.mem_singleton.mp hp]; exact mem_lset c _)
    (fun g u hg => by rw [tally_pos hg]; exact mem_lset _ _)
    (fun p hp => by rw [Finset.mem_singleton.mp hp]; exact (lev_gate c).le)
    (fun g u hg => by rw [tally_pos hg]; exact (lev_landed (mate c)).symm ▸ (by decide))

/-! ## The exchange's ghost state -/

/-- The five cell invariants device `c` opens: its own three, its partner's gate and arrival. -/
def invs (K : GSem nD τ sig → ℕ) (c : Dev nD) : sProp 𝕄 :=
  iprop(cellInv EX (plan m) (K (gate c)) (gate c) ∗ cellInv EX (plan m) (K (left c)) (left c)
    ∗ cellInv EX (plan m) (K (landed c)) (landed c)
    ∗ cellInv EX (plan m) (K (gate (mate c))) (gate (mate c)) ∗ cellInv EX (plan m) (K (landed (mate c))) (landed (mate c)))

instance invs_persistent (K : GSem nD τ sig → ℕ) (c : Dev nD) : BI.Persistent (invs m K c) := by unfold invs; infer_instance

/-- The three duties device `c` performs. -/
def tickets (c : Dev nD) : sProp 𝕄 :=
  iprop(dutyTok EX (gate (mate c)) 0 () ∗ dutyTok EX (left c) 0 () ∗ dutyTok EX (landed (mate c)) 0 ())

/-- From launch up to the region: the gate is open, the two scoped cells wait to be opened. -/
def shut (K : GSem nD τ sig → ℕ) (c : Dev nD) : sProp 𝕄 :=
  iprop(invs m K c ∗ atPos EX (gate c) 0 ∅ 0 ∗ openTok EX (left c) ∗ openTok EX (landed c) ∗ reached EX (gate (mate c)) 0 ∗ tickets c)

/-- Inside the region: all three cells open. -/
def ready (K : GSem nD τ sig → ℕ) (c : Dev nD) : sProp 𝕄 :=
  iprop(invs m K c ∗ atPos EX (gate c) 0 ∅ 0 ∗ atPos EX (left c) 0 ∅ 0 ∗ atPos EX (landed c) 0 ∅ 0
    ∗ reached EX (gate (mate c)) 0 ∗ reached EX (left c) 0 ∗ reached EX (landed c) 0 ∗ tickets c)

/-- The two credits device `c` will spend waiting. -/
def wages (c : Dev nD) : sProp 𝕄 := iprop(cred (tallyAt (gate c) () 1) ∗ cred (tallyAt (landed c) () Nmsg))

/-- A cell past its only round gives its counter back at zero. -/
theorem shut_cell (κ : ℕ) (g : GSem nD τ sig) :
    iprop(cellInv EX (plan m) κ g ∗ atPos EX g (0 + 1) ∅ 0) ⊢ (|={Set.univ}=> semVal g 0 : sProp 𝕄) :=
  Rounds.cell_close EX (plan m) (Set.mem_univ κ) id (duty_none m g)

/-- With the two scoped counters at zero, the two scoped cells open. -/
theorem open_cells (K : GSem nD τ sig → ℕ) (c : Dev nD) :
    iprop(shut m K c ∗ (semVal (left c) 0 ∗ semVal (landed c) 0)) ⊢ (|={Set.univ}=> ready m K c : sProp 𝕄) := by
  unfold shut ready
  iintro ⟨⟨#HI, Hg, HoS, HoV, #HrP, Ht⟩, Hs, Hv⟩
  unfold invs
  icases HI with ⟨#HIg, #HIo, #HIl, #HIgP, #HIlP⟩
  imod (Rounds.cell_open EX (plan m) (g := left c) (Set.mem_univ (K (left c)))) $$ [HoS Hs] with ⟨HatS, #HrS⟩
  · isplitr; · iexact HIo
    isplitl [HoS] <;> iassumption
  imod (Rounds.cell_open EX (plan m) (g := landed c) (Set.mem_univ (K (landed c)))) $$ [HoV Hv] with ⟨HatV, #HrV⟩
  · isplitr; · iexact HIl
    isplitl [HoV] <;> iassumption
  imodintro
  isplitr
  · isplitr; · iexact HIg
    isplitr; · iexact HIo
    isplitr; · iexact HIl
    isplitr; · iexact HIgP
    iexact HIlP
  isplitl [Hg]; · iexact Hg
  isplitl [HatS]; · iexact HatS
  isplitl [HatV]; · iexact HatV
  isplitr; · iexact HrP
  isplitr; · iexact HrS
  isplitr; · iexact HrV
  iexact Ht

end Cert.KernelIdeal.Swap

end
-- ==== Proof.Body.lean ====
module

public import proofs.«01_k».proof.Proof.Swap

/-! The kernel body, run once on one device: compute the own share, swap shares with the partner, merge, write. -/

@[expose] public section

set_option maxRecDepth 16384

noncomputable section

namespace Cert.KernelIdeal.Swap

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

theorem zeros2 : (![0, 0] : Fin 2 → Nat) = fun _ => 0 := by funext i; fin_cases i <;> rfl
theorem zeros4 : (![0, 0, 0, 0] : Fin 4 → Nat) = fun _ => 0 := by funext i; fin_cases i <;> rfl

/-- A load of a staging buffer's whole extent reads its contents. -/
theorem load_q (f : Vec F S64x64 .f32) : (Memref.whole cc0_stg0_0 : Memref sig .tc .vmem S64x64 .f32).view.readAt (Elt F)
    (Rect.unit (s := S64x64) ![0, 0] S64x64.size inb_S64x64_S64x64_0_0).toLoadRect f = f := Memref.readAt_unit_zero (Elt F) cc0_stg0_0 zeros2 _ f
theorem load_k (f : Vec F S1024x512 .f32) : (Memref.whole cc0_stg1_0 : Memref sig .tc .vmem S1024x512 .f32).view.readAt (Elt F)
    (Rect.unit (s := S1024x512) ![0, 0] S1024x512.size inb_S1024x512_S1024x512_0_0).toLoadRect f = f := Memref.readAt_unit_zero (Elt F) cc0_stg1_0 zeros2 _ f
theorem load_v (f : Vec F S1024x512 .f32) : (Memref.whole cc0_stg2_0 : Memref sig .tc .vmem S1024x512 .f32).view.readAt (Elt F)
    (Rect.unit (s := S1024x512) ![0, 0] S1024x512.size inb_S1024x512_S1024x512_0_0).toLoadRect f = f := Memref.readAt_unit_zero (Elt F) cc0_stg2_0 zeros2 _ f
theorem load_t (f : Vec F S8x64 .i32) : (Memref.whole cc0_stg3_0 : Memref sig .tc .vmem S8x64 .i32).view.readAt (Elt F)
    (Rect.unit (s := S8x64) ![0, 0] S8x64.size inb_S8x64_S8x64_0_0).toLoadRect f = f := Memref.readAt_unit_zero (Elt F) cc0_stg3_0 zeros2 _ f
theorem load_n (f : Vec F S8x1 .i32) : (Memref.whole cc0_stg4_0 : Memref sig .tc .vmem S8x1 .i32).view.readAt (Elt F)
    (Rect.unit (s := S8x1) ![0, 0] S8x1.size inb_S8x1_S8x1_0_0).toLoadRect f = f := Memref.readAt_unit_zero (Elt F) cc0_stg4_0 zeros2 _ f
/-- A store over the result staging buffer's whole extent leaves what was stored. -/
theorem store_r (f w : Vec F S8x1x8x64 .f32) : ((Memref.whole cc0_stg5_0 : Memref sig .tc .vmem S8x1x8x64 .f32).access
    (Rect.unit (s := S8x1x8x64) ![0, 0, 0, 0] S8x1x8x64.size inb_S8x1x8x64_S8x1x8x64_0_0_0_0)).write (Elt F) f w Finset.univ = w :=
  Memref.write_access_unit_zero_univ (Elt F) cc0_stg5_0 zeros4 _ f w

/-- The five operands staged on device `c`. -/
def operands (c : Dev nD) : sProp 𝕄 :=
  iprop(pt c cc0_stg0_0 (inQ m c) ∗ pt c cc0_stg1_0 (inK m c) ∗ pt c cc0_stg2_0 (inV m c) ∗ pt c cc0_stg3_0 (inT m c) ∗ pt c cc0_stg4_0 (inL m c))

/-- The names of the share, read from the kernel's own expressions. -/
theorem fold_wts (c : Dev nD) : k0_pay6 (k0_pay2 c (inL m c) (inT m c)) (iota .tc S64x1024 32 [0] iota_S64x1024_d0_w32)
    (iota .tc S64x1024 32 [1] iota_S64x1024_d1_w32) 16#32 k0_pay3 k0_pay4 k0_pay5 = wts m c := rfl
theorem fold_cols : iota .tc S64x512 32 [1] iota_S64x512_d1_w32 = cols := rfl
theorem fold_diag : k0_pay9 k0_pay8 cols = diag := rfl
theorem fold_top (c : Dev nD) : k0_pay11 (wts m c) (k0_pay7 (inQ m c)) k0_pay8 cols (inK m c) = top m c := rfl
theorem fold_pes (c : Dev nD) : k0_pay12 (wts m c) (k0_pay7 (inQ m c)) k0_pay8 cols (inK m c) = pes m c := rfl
theorem fold_den (c : Dev nD) : k0_pay13 (wts m c) (k0_pay7 (inQ m c)) k0_pay8 cols (inK m c) = den m c := rfl
theorem fold_num (c : Dev nD) : k0_pay15 diag (pes m c) (inV m c) = num m c := rfl
theorem fold_sentNum (c : Dev nD) : k0_pay16 diag (pes m c) (inV m c) = sentNum m c := rfl
theorem fold_sentTop (c : Dev nD) : k0_pay17 (top m c) = sentTop m c := rfl
theorem fold_sentDen (c : Dev nD) : k0_pay18 (den m c) = sentDen m c := rfl
theorem fold_merged (c : Dev nD) : k0_pay1 (top m c) (k0_pay14 (den m c)) (num m c) (sentNum m (mate c)) (sentTop m (mate c)) (sentDen m (mate c)) = merged m c := rfl

/-- A message buffer whose contents carry the device's three parts is a message carrying them. -/
theorem message_made (c : Dev nD) (f : (cc0_scratch0 : Ref sig .tc).ty.Contents (Elt F)) (h : Carries m c f) :
    (pt c cc0_scratch0 f : sProp 𝕄) ⊢ iprop(∃ fs, ⌜Carries m c fs⌝ ∗ outPts c fs) := by
  iintro H
  iexists f
  isplitr; · ipureintro; exact h
  rw [outPts_eq]; iexact H

/-- A landing buffer holding the sender's message is what its owner is to get back. -/
theorem landed_intro (c : Dev nD) (f : (cc0_scratch1 : Ref sig .tc).ty.Contents (Elt F)) (h : Carries m c f) :
    (innPts (mate c) f : sProp 𝕄) ⊢ landedPay m (mate c) := by
  unfold landedPay
  rw [mate_mate]
  iintro H
  iexists f
  isplitr; · ipureintro; exact h
  iexact H

/-- The copy into the partner's landing buffer: it pays the own departure and the partner's arrival, the message carried along. -/
theorem send_mate (K : GSem nD τ sig → ℕ) (c n : Dev nD) (hn : n = mate c) {hsc : (innM : Memref sig (Dev.tc n : Thread nD τ).2.kind .vmem S64x128 .f32).view.ref.isScScratch = false}
    {hsrc : (outM : Memref sig .tc .vmem S64x128 .f32).view.WordExact} {hdst : (innM : Memref sig .tc .vmem S64x128 .f32).view.WordExact}
    {hsem : DmaTarget.Typed .vmem (.dma innS) (.remote (Dev.tc n : Thread nD τ) (innM : Memref sig .tc .vmem S64x128 .f32) (.dma outS) hsc)}
    {α : Type} {Q : α → sProp 𝕄} {k : PUnit → Prog (TpuEff nD τ sig (Elt F) Λ₀ .tc) α}
    (fs fn : S64x128.Idx → Elt F .f32) (hmsg : Carries m c fs) (W : Waits sig Unit) :
    iprop(cellInv EX (plan m) (K (left c)) (left c) ∗ cellInv EX (plan m) (K (landed (mate c))) (landed (mate c))
        ∗ outPts c fs ∗ innPts (mate c) fn
        ∗ owes (c : Thread nD τ) (tallyAt (landed (mate c)) () Nmsg) W
        ∗ dutyTok EX (left c) 0 () ∗ reached EX (left c) 0 ∗ dutyTok EX (landed (mate c)) 0 () ∗ reached EX (landed (mate c)) 0)
      ⊢ iprop(((cred (tallyAt (left c) () Nmsg) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma outM (.remote (Dev.tc n : Thread nD τ) innM (.dma outS) hsc) (.dma innS) hsrc hdst hsem) k) Q) := by
  subst hn
  unfold outPts innPts
  refine Rounds.wp_send_pointsTo 𝒱₀ EX (plan m) (c : Thread nD τ) none (c' := (mate c : Thread nD τ)) (src := outM) (dst := innM) (sS := .dma outS) (sem := .dma innS) (κ₁ := K (left c)) (κ₂ := K (landed (mate c)))
      (q := fullShare) (fs := fs) (fd := fn)
      (r₁ := 0) (r₂ := 0) (d₁ := ()) (d₂ := ()) ?_ ?_ () () Nmsg ?_ ?_ ?_ 0 ?_ (W := W) ?_ ?_
  · rw [duty_left]; exact Finset.mem_singleton_self _
  · rw [duty_landed]; exact Finset.mem_singleton_self _
  · rfl
  · exact units_left m c ()
  · exact units_landed m (mate c) ()
  · rw [zero_add]
  · rw [pays_left]; unfold leftPay outPts; iintro H; iexists fs; iexact H
  · rw [pays_landed]
    exact (Entails.of_eq (congrArg (innPts (mate c)) (msg_copied fn fs))).trans (landed_intro m c fs hmsg)

/-- What a wait for the own departure, and one for the partner's arrival, takes: the whole credit of the cell's round. -/
theorem credit_left (c : Dev nD) : 0 + (outM : Memref sig .tc .vmem S64x128 .f32).view.dmaCredit = (plan (F := F) m).expect (left c) 0 :=
  (Nat.zero_add _).trans (awaits_left m c).symm
theorem credit_landed (c : Dev nD) : 0 + (innM : Memref sig .tc .vmem S64x128 .f32).view.dmaCredit = (plan (F := F) m).expect (landed c) 0 :=
  (Nat.zero_add _).trans (awaits_landed m c).symm

/-- What the body starts from. -/
def before (K : GSem nD τ sig → ℕ) (c : Dev nD) (W : Waits sig Unit) : sProp 𝕄 :=
  iprop(ready m K c ∗ wages c ∗ levAts lset lev ∗ (∃ f, pt c cc0_scratch0 f) ∗ (∃ f, innPts c f)
    ∗ operands m c ∗ (∃ f, pt c cc0_stg5_0 f) ∗ owes (c : Thread nD τ) (debt c) W)

/-- What it leaves: the three counters at zero, both message buffers, the operands as they were, the merged block in the
    result's staging buffer, nothing owed. -/
def after (c : Dev nD) : sProp 𝕄 :=
  iprop((semVal (gate c) 0 ∗ semVal (left c) 0 ∗ semVal (landed c) 0) ∗ (∃ f, pt c cc0_scratch0 f) ∗ (∃ f, pt c cc0_scratch1 f)
    ∗ operands m c ∗ pt c cc0_stg5_0 (merged m c) ∗ ∃ W, owes (c : Thread nD τ) (0 : CellTallies nD τ sig Unit) W)

set_option maxHeartbeats 1600000 in
theorem body_runs (K : GSem nD τ sig → ℕ) (c : Dev nD) (W : Waits sig Unit) (Kt : PUnit → sProp 𝕄) :
    iprop(before m K c W ∗ (after m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3) Kt := by
  rw [cc0_body_eq_skeleton]; unfold cc0_body_skel
  rw [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId, dev1_mate c]
  unfold before ready invs tickets wages operands
  iintro ⟨⟨⟨⟨#HIg, #HIo, #HIl, #HIgP, #HIlP⟩, HatG, HatO, HatL, #HrP, #HrO, #HrL, HtG, HtO, HtL⟩, ⟨HcG, HcL⟩, #Hlev, ⟨%f0, Ho⟩, ⟨%f1, Hi⟩, ⟨Hq, Hk, Hv, Ht, Hn⟩, ⟨%f5, Hr⟩, HO⟩, Hret⟩
  -- the five operands
  iapply (wp_load 𝒱₀ (c : Thread nD τ) none Set.univ (m := Memref.whole cc0_stg4_0) (Finset.subset_univ _)) $$ Hn; iintro Hn
  rw [load_n (inL m c)]
  iapply (wp_load 𝒱₀ (c : Thread nD τ) none Set.univ (m := Memref.whole cc0_stg3_0) (Finset.subset_univ _)) $$ Ht; iintro Ht
  rw [load_t (inT m c)]
  iapply (wp_load 𝒱₀ (c : Thread nD τ) none Set.univ (m := Memref.whole cc0_stg0_0) (Finset.subset_univ _)) $$ Hq; iintro Hq
  rw [load_q (inQ m c)]
  iapply (wp_load 𝒱₀ (c : Thread nD τ) none Set.univ (m := Memref.whole cc0_stg1_0) (Finset.subset_univ _)) $$ Hk; iintro Hk
  rw [load_k (inK m c)]
  iapply (wp_load 𝒱₀ (c : Thread nD τ) none Set.univ (m := Memref.whole cc0_stg2_0) (Finset.subset_univ _)) $$ Hv; iintro Hv
  rw [load_v (inV m c)]
  -- the share, under its names
  rw [fold_wts m c, fold_cols, fold_diag, fold_top m c, fold_pes m c, fold_den m c, fold_num m c, fold_sentNum m c, fold_sentTop m c, fold_sentDen m c]
  -- the message, three stores; each is preceded by a load nothing uses
  iapply (wp_load 𝒱₀ (c : Thread nD τ) none Set.univ (m := outM) (Finset.subset_univ _)) $$ Ho; iintro Ho
  iapply (wp_store 𝒱₀ (c : Thread nD τ) none Set.univ (m := outM) (r := rNum) (w := sentNum m c) (Mk := Finset.univ) (Finset.subset_univ _)) $$ Ho; iintro Ho
  iapply (wp_load 𝒱₀ (c : Thread nD τ) none Set.univ (m := outM) (Finset.subset_univ _)) $$ Ho; iintro Ho
  iapply (wp_store 𝒱₀ (c : Thread nD τ) none Set.univ (m := outM) (r := rTop) (w := sentTop m c) (Mk := Finset.univ) (Finset.subset_univ _)) $$ Ho; iintro Ho
  iapply (wp_load 𝒱₀ (c : Thread nD τ) none Set.univ (m := outM) (Finset.subset_univ _)) $$ Ho; iintro Ho
  iapply (wp_store 𝒱₀ (c : Thread nD τ) none Set.univ (m := outM) (r := rDen) (w := sentDen m c) (Mk := Finset.univ) (Finset.subset_univ _)) $$ Ho; iintro Ho
  ihave Ho := (message_made m c _ (carries_stores m c f0)) $$ Ho
  icases Ho with ⟨%fs, %hmsg, Ho'⟩
  -- the signal to the partner's gate: the own landing buffer goes with it
  iapply (Rounds.wp_signal 𝒱₀ EX (plan m) (c : Thread nD τ) none (dst := (mate c : Thread nD τ)) (sem := gateS) (r := 0) (d := ()) (κ := K (gate (mate c)))
      (by rw [duty_gate]; exact Finset.mem_singleton_self _) (units_gate m (mate c) ()) () (tallyAt (landed (mate c)) () Nmsg) rfl)
    $$ [HO HtG Hi]
  · isplitr; · iexact HIgP
    isplitl [HO]; · iexact HO
    isplitl [HtG]; · iexact HtG
    isplitl [Hi]
    · rw [pays_gate]; unfold gatePay; rw [mate_mate]
      isplitl [Hi]; · iexists f1; iexact Hi
      iexact HrL
    · iexact HrP
  iintro HO
  -- the wait at the own gate: the partner's landing buffer comes with the unit
  iapply (Rounds.wp_wait_rest_token 𝒱₀ EX (plan m) (c : Thread nD τ) none (κ := K (gate c))
      (wpE_semWait_eq 𝒱₀ (c : Thread nD τ) none Set.univ) (Set.mem_univ _) () (O := tallyAt (landed (mate c)) () Nmsg) (W := W) (R := 0) (m := 0) (T := ∅)
      ((Nat.zero_add 1).trans (awaits_gate m c).symm)) $$ [HcG HO HatG]
  · isplitr; · iexact HIg
    isplitl [HcG]; · iexact HcG
    isplitl [HO]; · iexact HO
    isplitr; · iapply (gate_waits c); iexact Hlev
    iexact HatG
  iintro ⟨HO, HatG, -, Hpay⟩
  ihave Hp := (Entails.of_eq (due_gate m c)) $$ Hpay
  unfold gatePay
  icases Hp with ⟨⟨%fn, HiP⟩, #HrLP⟩
  -- the copy into the partner's landing buffer
  iapply (send_mate m K c _ (dev2_mate c) fs fn hmsg (insert (SemLoc.reg gateS, ()) W)) $$ [Ho' HiP HO HtO HtL]
  · isplitr; · iexact HIo
    isplitr; · iexact HIlP
    isplitl [Ho']; · iexact Ho'
    isplitl [HiP]; · iexact HiP
    isplitl [HO]; · iexact HO
    isplitl [HtO]; · iexact HtO
    isplitr; · iexact HrO
    isplitl [HtL]; · iexact HtL
    iexact HrLP
  iintro ⟨HcO, HO⟩
  -- the own copy has left
  iapply (Rounds.wp_wait_rest_token 𝒱₀ EX (plan m) (c : Thread nD τ) none (κ := K (left c))
      (wpE_waitDma2_eq (src := innM) (dst := outM) 𝒱₀ (c : Thread nD τ) none Set.univ) (Set.mem_univ _) () (O := 0) (W := insert (SemLoc.reg gateS, ()) W) (R := 0) (m := 0) (T := ∅)
      (credit_left m c)) $$ [HcO HO HatO]
  · isplitr; · iexact HIo
    isplitl [HcO]; · iexact HcO
    isplitl [HO]; · iexact HO
    isplitr; · rw [MayWait_zero]; iempintro
    iexact HatO
  iintro ⟨HO, HatO, -, Hpay⟩
  ihave Ho := (Entails.of_eq (due_left m c)) $$ Hpay
  unfold leftPay
  icases Ho with ⟨%fo, Ho⟩
  -- the partner's copy has landed
  iapply (Rounds.wp_wait_rest_token 𝒱₀ EX (plan m) (c : Thread nD τ) none (κ := K (landed c))
      (wpE_waitDma2_eq (src := outM) (dst := innM) 𝒱₀ (c : Thread nD τ) none Set.univ) (Set.mem_univ _) () (O := 0)
      (W := insert (SemLoc.dma outS, ()) (insert (SemLoc.reg gateS, ()) W)) (R := 0) (m := 0) (T := ∅)
      (credit_landed m c)) $$ [HcL HO HatL]
  · isplitr; · iexact HIl
    isplitl [HcL]; · iexact HcL
    isplitl [HO]; · iexact HO
    isplitr; · rw [MayWait_zero]; iempintro
    iexact HatL
  iintro ⟨HO, HatL, -, Hpay⟩
  ihave Hi := (Entails.of_eq (due_landed m c)) $$ Hpay
  unfold landedPay
  icases Hi with ⟨%fi, %hgot, Hi⟩
  ihave Hi' := (Entails.of_eq (innPts_eq c fi)) $$ Hi
  ihave Ho' := (Entails.of_eq (outPts_eq c fo)) $$ Ho
  -- the three parts read back, the merged block written
  iapply (wp_load 𝒱₀ (c : Thread nD τ) none Set.univ (m := innM) (Finset.subset_univ _)) $$ Hi'; iintro Hi'
  rw [hgot.1]
  iapply (wp_load 𝒱₀ (c : Thread nD τ) none Set.univ (m := innM) (Finset.subset_univ _)) $$ Hi'; iintro Hi'
  rw [hgot.2.1]
  iapply (wp_load 𝒱₀ (c : Thread nD τ) none Set.univ (m := innM) (Finset.subset_univ _)) $$ Hi'; iintro Hi'
  rw [hgot.2.2, fold_merged m c]
  iapply (wp_load 𝒱₀ (c : Thread nD τ) none Set.univ (m := Memref.whole cc0_stg5_0) (Finset.subset_univ _)) $$ Hr; iintro Hr
  iapply (wp_store 𝒱₀ (c : Thread nD τ) none Set.univ (m := Memref.whole cc0_stg5_0)
    (r := Rect.unit (s := S8x1x8x64) ![0, 0, 0, 0] S8x1x8x64.size inb_S8x1x8x64_S8x1x8x64_0_0_0_0) (w := merged m c) (Mk := Finset.univ) (Finset.subset_univ _)) $$ Hr; iintro Hr
  rw [store_r f5 (merged m c)]
  -- before the return the three cells close
  rw [wp_ret]
  imod (shut_cell m (K (gate c)) (gate c)) $$ [HatG] with Hg0
  · isplitr; · iexact HIg
    iexact HatG
  imod (shut_cell m (K (left c)) (left c)) $$ [HatO] with Ho0
  · isplitr; · iexact HIo
    iexact HatO
  imod (shut_cell m (K (landed c)) (landed c)) $$ [HatL] with Hl0
  · isplitr; · iexact HIl
    iexact HatL
  imodintro
  iapply Hret
  unfold after operands
  isplitl [Hg0 Ho0 Hl0]
  · isplitl [Hg0]; · iexact Hg0
    isplitl [Ho0] <;> iassumption
  isplitl [Ho']; · iexists fo; iexact Ho'
  isplitl [Hi']; · iexists fi; iexact Hi'
  isplitl [Hq Hk Hv Ht Hn]
  · isplitl [Hq]; · iexact Hq
    isplitl [Hk]; · iexact Hk
    isplitl [Hv]; · iexact Hv
    isplitl [Ht] <;> iassumption
  isplitl [Hr]; · iexact Hr
  iexists _; iexact HO

end Cert.KernelIdeal.Swap

end
-- ==== Proof.Run.lean ====
module

public import proofs.«01_k».proof.Proof.Body
public import Idealize.ShloMosaic.Lib.Pipeline.ValueKit

/-! The whole program: the host reshapes, then the region holding the exchange, from any launch on all devices. -/

@[expose] public section

set_option maxRecDepth 16384

noncomputable section

namespace Cert.KernelIdeal.Swap

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

variable (ρ : Dev nD → PrngReg)

/-! ## Buffers at the region's two ends -/

/-- The buffers a device keeps for the whole program. -/
def bufs : Finset (DevRef τ sig) := (StableHlo.tcRefs τ sig).filter fun b => ¬ b.isScoped

/-- A device's buffers as launched, after the host reshapes, and at the end: the result holds the merged block. -/
abbrev V₀ (c : Dev nD) : Valuation τ sig (Elt F) := fun b => m ((c : Dev nD), b)
abbrev V₁ (c : Dev nD) : Valuation τ sig (Elt F) := StableHlo.after hostOps0 (V₀ m c)
abbrev V₂ (c : Dev nD) : Valuation τ sig (Elt F) := Function.update (V₁ m c) (Proc.devRef .tc main_v5) (merged m c)

theorem V₂_v5 (c : Dev nD) : V₂ m c main_v5 = merged m c := Function.update_self ..
theorem V₂_of_ne (c : Dev nD) (b : DevRef τ sig) (h : b ≠ Proc.devRef .tc main_v5) : V₂ m c b = V₁ m c b := Function.update_of_ne h ..

theorem kept_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_eq (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_arg3 (W main_arg3)
      ∗ pt c main_arg4 (W main_arg4) ∗ pt c main_v1 (W main_v1) ∗ pt c main_v2 (W main_v2) ∗ pt c main_v3 (W main_v3)
      ∗ pt c main_v4 (W main_v4) ∗ pt c main_v5 (W main_v5)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3, Proc.devRef .tc main_v4,
    Proc.devRef .tc main_v5] (by decide) (by decide)]
  rfl

theorem kept_sems (c : Dev nD) : (unscopedSems0 c : sProp 𝕄) = semVal (gate c) 0 := by
  unfold unscopedSems0
  rw [show (Finset.univ.filter fun sm : SemLoc sig => ¬ sm.isScoped .tc) = {SemLoc.reg gateS} from by decide, BI.bigSep_singleton]

theorem own_sems (c : Dev nD) : (Pipeline.ownSems0 osem c : sProp 𝕄) = iprop(semVal (left c) 0 ∗ semVal (landed c) 0) :=
  BI.bigSep_fin_two (fun k : Fin 2 => (semVal ((c : Thread nD τ), osem k) 0 : sProp 𝕄))

/-! ## The region's proof data -/

/-- What the exchange takes from launch. -/
def start (c : Dev nD) : sProp 𝕄 := iprop((∃ K, shut m K c) ∗ wages c)
/-- The same once the scoped cells are open, with the levels to wait by. -/
def opened (c : Dev nD) : sProp 𝕄 := iprop((∃ K, ready m K c) ∗ wages c ∗ levAts lset lev)

/-- The two message buffers at contents not chosen. -/
def slots (c : Dev nD) : sProp 𝕄 := iprop((∃ f, pt c cc0_scratch0 f) ∗ (∃ f, pt c cc0_scratch1 f))

/-- One point: before it the exchange is ready and its debt open, after it the counters are zero and nothing is owed. -/
def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => merged m c
    | ⟨_ + 6, h⟩ => absurd h (Nat.not_lt.2 (Nat.le_add_left _ _))
  Φ t := if t.val = 0 then iprop(opened m c ∗ slots c ∗ ∃ r, prngReg c r)
    else iprop((semVal (gate c) 0 ∗ semVal (left c) 0 ∗ semVal (landed c) 0) ∗ slots c ∗ ∃ r, prngReg c r)
  q _ := fullShare
  owed t := if t.val = 0 then debt c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_zero (c : Dev nD) : (pdats (F := F) m 0 c).owed 0 = debt c := by
  show (if ((0 : Fin (cfg0.N + 1)).val = 0) then debt c else 0) = debt c; exact if_pos rfl
theorem owed_first (c : Dev nD) : (dat (F := F) m c).owed t0_0.castSucc = debt c := by
  show (if (t0_0.castSucc : Fin (cfg0.N + 1)).val = 0 then debt c else 0) = debt c; exact if_pos rfl
theorem owed_last (c : Dev nD) : (pdats (F := F) m 0 c).owed (Fin.last _) = 0 := by
  show (if (Fin.last cfg0.N).val = 0 then debt c else 0) = 0
  rw [Fin.val_last, if_neg (by rw [show cfg0.N = 1 from N_0]; decide)]

theorem owing_in (c : Dev nD) (t : Fin (cfg0.N + 1)) (O : CellTallies nD τ sig Unit) (h : (dat (F := F) m c).owed t = O) (W : Waits sig Unit) :
    (owes (c : Thread nD τ) O W : sProp 𝕄) ⊢ (dat (F := F) m c).owesAt () t := by
  unfold Dat.owesAt Pipeline.owesWithin Dat.bound; rw [h]
  iintro H; iexists W; isplitr; · ipureintro; exact fun _ _ => Or.inl trivial
  iexact H
theorem owing_out (c : Dev nD) (t : Fin (cfg0.N + 1)) (O : CellTallies nD τ sig Unit) (h : (dat (F := F) m c).owed t = O) :
    ((dat (F := F) m c).owesAt () t : sProp 𝕄) ⊢ iprop(∃ W, owes (c : Thread nD τ) O W) := by
  unfold Dat.owesAt Pipeline.owesWithin; rw [h]
  iintro ⟨%W, -, H⟩; iexists W; iexact H

theorem before_q (c : Dev nD) (d) : (dat (F := F) m c).before 0 t0_0 d = inQ m c :=
  ((dat m c).before_in_eq_fetched 0 rfl (fun _ => rfl) (fun _ _ _ => rfl) (fun t => by unfold Dat.blockOf; rfl) t0_0 d).trans
    (by unfold Dat.fetched Dat.blockOf inQ iblk; rfl)
theorem before_k (c : Dev nD) (d) : (dat (F := F) m c).before 1 t0_0 d = inK m c :=
  ((dat m c).before_in_eq_fetched 1 rfl (fun _ => rfl) (fun _ _ _ => rfl) (fun t => by unfold Dat.blockOf; rfl) t0_0 d).trans
    (by unfold Dat.fetched Dat.blockOf inK iblk; rfl)
theorem before_v (c : Dev nD) (d) : (dat (F := F) m c).before 2 t0_0 d = inV m c :=
  ((dat m c).before_in_eq_fetched 2 rfl (fun _ => rfl) (fun _ _ _ => rfl) (fun t => by unfold Dat.blockOf; rfl) t0_0 d).trans
    (by unfold Dat.fetched Dat.blockOf inV iblk; rfl)
theorem before_t (c : Dev nD) (d) : (dat (F := F) m c).before 3 t0_0 d = inT m c :=
  ((dat m c).before_in_eq_fetched 3 rfl (fun _ => rfl) (fun _ _ _ => rfl) (fun t => by unfold Dat.blockOf; rfl) t0_0 d).trans
    (by unfold Dat.fetched Dat.blockOf inT iblk; rfl)
theorem before_n (c : Dev nD) (d) : (dat (F := F) m c).before 4 t0_0 d = inL m c :=
  ((dat m c).before_in_eq_fetched 4 rfl (fun _ => rfl) (fun _ _ _ => rfl) (fun t => by unfold Dat.blockOf; rfl) t0_0 d).trans
    (by unfold Dat.fetched Dat.blockOf inL iblk; rfl)

/-- Owning a whole buffer is holding it at its contents. -/
theorem owns_pt (c : Dev nD) (b : Ref sig .tc) (X : b.ty.shape.Idx → Elt F b.ty.elt) :
    (owns c (Memref.whole b) fullShare X : sProp 𝕄) = iprop(∃ f, ⌜f = X⌝ ∗ pt c b f) := by
  unfold owns; simp only [Memref.view_whole, View.read_whole, View.set_whole]
theorem owns_out (c : Dev nD) (b : Ref sig .tc) (X : b.ty.shape.Idx → Elt F b.ty.elt) :
    (owns c (Memref.whole b) fullShare X : sProp 𝕄) ⊢ pt c b X := by
  rw [owns_pt]; iintro ⟨%f, %h, H⟩; subst h; iexact H
theorem owns_in (c : Dev nD) (b : Ref sig .tc) (X : b.ty.shape.Idx → Elt F b.ty.elt) :
    (pt c b X : sProp 𝕄) ⊢ owns c (Memref.whole b) fullShare X := by
  rw [owns_pt]; iintro H; iexists X; isplitr; · ipureintro; rfl
  iexact H

set_option maxHeartbeats 1600000 in
/-- The region's one point is the body's run. -/
theorem point (c : Dev nD) : BodyObligation (dat (F := F) m c) defs₀ 𝒱₀ () Set.univ := fun t => by
  obtain rfl := fin_N0 t
  rw [bigSep_W0, bigSep_W0]
  rw [show (dat (F := F) m c).Φ t0_0.castSucc = iprop(opened m c ∗ slots c ∗ ∃ r, prngReg c r) from rfl,
    show (dat (F := F) m c).Φ t0_0.succ = iprop((semVal (gate c) 0 ∗ semVal (left c) 0 ∗ semVal (landed c) 0) ∗ slots c ∗ ∃ r, prngReg c r) from rfl]
  show iprop((opened m c ∗ slots c ∗ ∃ r, prngReg c r) ∗ (dat (F := F) m c).owesAt () t0_0.castSucc
      ∗ (∃ d, owns c (Memref.whole cc0_stg0_0) fullShare ((dat (F := F) m c).before 0 t0_0 d))
      ∗ (∃ d, owns c (Memref.whole cc0_stg1_0) fullShare ((dat (F := F) m c).before 1 t0_0 d))
      ∗ (∃ d, owns c (Memref.whole cc0_stg2_0) fullShare ((dat (F := F) m c).before 2 t0_0 d))
      ∗ (∃ d, owns c (Memref.whole cc0_stg3_0) fullShare ((dat (F := F) m c).before 3 t0_0 d))
      ∗ (∃ d, owns c (Memref.whole cc0_stg4_0) fullShare ((dat (F := F) m c).before 4 t0_0 d))
      ∗ (∃ d, owns c (Memref.whole cc0_stg5_0) fullShare ((dat (F := F) m c).before 5 t0_0 d)))
    ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3) fun _ =>
        iprop(((semVal (gate c) 0 ∗ semVal (left c) 0 ∗ semVal (landed c) 0) ∗ slots c ∗ ∃ r, prngReg c r) ∗ (dat (F := F) m c).owesAt () t0_0.succ
          ∗ owns c (Memref.whole cc0_stg0_0) fullShare (inQ m c) ∗ owns c (Memref.whole cc0_stg1_0) fullShare (inK m c)
          ∗ owns c (Memref.whole cc0_stg2_0) fullShare (inV m c) ∗ owns c (Memref.whole cc0_stg3_0) fullShare (inT m c)
          ∗ owns c (Memref.whole cc0_stg4_0) fullShare (inL m c) ∗ owns c (Memref.whole cc0_stg5_0) fullShare (merged m c))
  unfold opened slots
  iintro ⟨⟨⟨⟨%K, Hg⟩, Hw, Hlev⟩, ⟨Ho, ⟨%f1, Hi⟩⟩, Hreg⟩, HO, ⟨%d0, H0⟩, ⟨%d1, H1⟩, ⟨%d2, H2⟩, ⟨%d3, H3⟩, ⟨%d4, H4⟩, ⟨%d5, H5⟩⟩
  rw [before_q m c d0, before_k m c d1, before_v m c d2, before_t m c d3, before_n m c d4]
  ihave HO' := (owing_out m c _ (debt c) (owed_first m c)) $$ HO
  icases HO' with ⟨%W, HO⟩
  iapply (body_runs m K c W _)
  isplitl [Hg Hw Hlev Ho Hi HO H0 H1 H2 H3 H4 H5]
  · unfold before operands
    isplitl [Hg]; · iexact Hg
    isplitl [Hw]; · iexact Hw
    isplitl [Hlev]; · iexact Hlev
    isplitl [Ho]; · iexact Ho
    isplitl [Hi]; · iexists f1; rw [innPts_eq]; iexact Hi
    isplitl [H0 H1 H2 H3 H4]
    · isplitl [H0]; · iapply (owns_out c cc0_stg0_0 (inQ m c)); iexact H0
      isplitl [H1]; · iapply (owns_out c cc0_stg1_0 (inK m c)); iexact H1
      isplitl [H2]; · iapply (owns_out c cc0_stg2_0 (inV m c)); iexact H2
      isplitl [H3]; · iapply (owns_out c cc0_stg3_0 (inT m c)); iexact H3
      iapply (owns_out c cc0_stg4_0 (inL m c)); iexact H4
    isplitl [H5]; · iexists _; iapply (owns_out c cc0_stg5_0 _); iexact H5
    iexact HO
  unfold after operands
  iintro ⟨Hs, Ho, Hi, ⟨H0, H1, H2, H3, H4⟩, H5, ⟨%W', HO⟩⟩
  isplitl [Hs Ho Hi Hreg]
  · isplitl [Hs]; · iexact Hs
    isplitl [Ho Hi]; · isplitl [Ho] <;> iassumption
    iexact Hreg
  isplitl [HO]; · iapply (owing_in m c t0_0.succ 0 (owed_last m c) W'); iexact HO
  isplitl [H0]; · iapply (owns_in c cc0_stg0_0 (inQ m c)); iexact H0
  isplitl [H1]; · iapply (owns_in c cc0_stg1_0 (inK m c)); iexact H1
  isplitl [H2]; · iapply (owns_in c cc0_stg2_0 (inV m c)); iexact H2
  isplitl [H3]; · iapply (owns_in c cc0_stg3_0 (inT m c)); iexact H3
  isplitl [H4]; · iapply (owns_in c cc0_stg4_0 (inL m c)); iexact H4
  iapply (owns_in c cc0_stg5_0 (merged m c)); iexact H5

/-! ## The two segments -/

local notation "ℍ" => Pipeline.HostSeg (Name := ℕ) (U := UU) (pcfgs (F := F)) defs₀ 𝒱₀ lset lev
local notation "ℝ𝕊" => Pipeline.RegionSeg (pcfgs (F := F)) adm (pdats m) () defs₀ 𝒱₀ lset lev

/-- What rides beside the buffers up to the region. -/
def beside (c : Dev nD) : sProp 𝕄 := iprop((start m c ∗ ∃ r, prngReg c r) ∗ ∃ W, owes (c : Thread nD τ) (debt c) W)

theorem reshapes_sub : ∀ op ∈ (hostOps0 : List (HloOp τ sig (Elt F))), op.bufs ⊆ bufs := by
  refine List.forall_iff_forall_mem.mp ?_
  simp only [List.Forall]
  refine ⟨?_, ?_, ?_, ?_⟩
  · show ({Proc.devRef .tc main_arg0, Proc.devRef .tc main_v1} : Finset (DevRef τ sig)) ⊆ bufs; decide
  · show ({Proc.devRef .tc main_arg1, Proc.devRef .tc main_v2} : Finset (DevRef τ sig)) ⊆ bufs; decide
  · show ({Proc.devRef .tc main_arg2, Proc.devRef .tc main_v3} : Finset (DevRef τ sig)) ⊆ bufs; decide
  · show ({Proc.devRef .tc main_arg4, Proc.devRef .tc main_v4} : Finset (DevRef τ sig)) ⊆ bufs; decide

/-- The host reshapes. -/
def host0 : ℍ := Pipeline.HostSeg.ofOps _ _ _ _ _ bufs hostOps0 reshapes_sub (List.forall_iff_forall_mem.mp hostOps0_fresh) (V₀ m) (beside m)

theorem open_start (c : Dev nD) : iprop(start m c ∗ Pipeline.ownSems0 osem c ∗ levAts lset lev) ⊢ (|={Set.univ}=> opened m c : sProp 𝕄) := by
  rw [own_sems]
  unfold start opened
  iintro ⟨⟨⟨%K, Hg⟩, Hw⟩, Hs, Hlev⟩
  imod (open_cells m K c) $$ [Hg Hs] with Hr
  · isplitl [Hg]; · iexact Hg
    iexact Hs
  imodintro
  isplitl [Hr]; · iexists K; iexact Hr
  isplitl [Hw] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem rest_slots (c : Dev nD) : (Pipeline.scopedRest (Ix := Unit) (Name := ℕ) (U := UU) (Lvl := ℕ) (Val := Elt F)
    (Pipeline.pin (pcfgs (F := F)) adm 0).spec c : sProp 𝕄) = slots c := scopedRest0_eq c

theorem held_none (c : Dev nD) (W : Valuation τ sig (Elt F)) : (StableHlo.held (c.tc : Thread nD τ) ∅ W : sProp 𝕄) = BI.emp := by
  unfold StableHlo.held; exact BI.bigSep_empty

theorem enter (c : Dev nD) : iprop(Pipeline.scopedRest (Pipeline.pin (pcfgs (F := F)) adm 0).spec c ∗ (∃ r, prngReg c r)
    ∗ StableHlo.held (c.tc : Thread nD τ) ∅ (V₁ m c) ∗ opened m c) ⊢ (pdats m 0 c).Φ 0 := by
  rw [show (pdats m 0 c).Φ 0 = iprop(opened m c ∗ slots c ∗ ∃ r, prngReg c r) from rfl, rest_slots]
  iintro ⟨Hs, Hp, -, Ho⟩
  isplitl [Ho]; · iexact Ho
  isplitl [Hs] <;> iassumption

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (gate c) 0) := by
  rw [show (pdats m 0 c).Φ (Fin.last _) = iprop((semVal (gate c) 0 ∗ semVal (left c) 0 ∗ semVal (landed c) 0) ∗ slots c ∗ ∃ r, prngReg c r) from rfl,
    rest_slots, own_sems, held_none]
  iintro ⟨⟨Hg, Hlr⟩, Hs, Hp⟩
  isplitl [Hs]; · iexact Hs
  isplitl [Hp]; · iexact Hp
  isplitr; · iempintro
  isplitl [Hlr] <;> iassumption

/-- What a device still owes sits above every staging cell's level. -/
theorem debt_cut (c : Dev nD) (t : Fin ((Pipeline.pin (pcfgs (F := F)) adm 0).N + 1)) (g : GSem nD τ sig) (i : Unit)
    (h : 0 < (pdats (F := F) m 0 c).owed t g i) : i ∈ lset g ∧ (0 : ℕ) < lev g i := by
  have e : (pdats (F := F) m 0 c).owed t = if t.val = 0 then debt c else 0 := rfl
  rw [e] at h
  split at h
  · rcases debt_pos h with rfl | rfl
    · exact ⟨mem_lset _ _, by rw [lev_landed]; decide⟩
    · exact ⟨mem_lset _ _, by rw [lev_gate]; decide⟩
  · exact absurd h (Nat.lt_irrefl 0)

theorem stage_low (w : Fin 6) (s : Fin (spec0 w).nbuf) : (SemLoc.dma ((spec0 w).sem s) : SemLoc sig) ≠ .dma innS := by
  revert w s; decide

/-- The result array ends at the merged block. -/
theorem arr_out (c : Dev nD) : (pdats (F := F) m 0 c).arrAt 5 cfg0.N = merged m c := by
  refine (dat m c).arrAt_eq_of_after_last 5 t0_0 (by decide +kernel) _ fun j => ?_
  blk_simp
  rfl

theorem arr_end (c : Dev nD) (w : Fin 6) : (pdats (F := F) m 0 c).arrAt w (Pipeline.pin (pcfgs (F := F)) adm 0).N
    = V₂ m c (Proc.devRef .tc (Pipeline.arrRef (Pipeline.pin (pcfgs (F := F)) adm 0).spec w)) := by
  fin_cases w
  · exact ((dat (F := F) m c).arrAt_in 0 rfl _).trans (V₂_of_ne m c (Proc.devRef .tc main_v1) (by decide)).symm
  · exact ((dat (F := F) m c).arrAt_in 1 rfl _).trans (V₂_of_ne m c (Proc.devRef .tc main_v2) (by decide)).symm
  · exact ((dat (F := F) m c).arrAt_in 2 rfl _).trans (V₂_of_ne m c (Proc.devRef .tc main_v3) (by decide)).symm
  · exact ((dat (F := F) m c).arrAt_in 3 rfl _).trans (V₂_of_ne m c (Proc.devRef .tc main_arg3) (by decide)).symm
  · exact ((dat (F := F) m c).arrAt_in 4 rfl _).trans (V₂_of_ne m c (Proc.devRef .tc main_v4) (by decide)).symm
  · exact (arr_out m c).trans (V₂_v5 m c).symm

/-- The buffers the region's windows stage, and the others. -/
abbrev arrs : Finset (DevRef τ sig) := Pipeline.arrRefs (τ := τ) spec0
theorem arrs_sub : arrs ⊆ bufs := by decide
theorem v5_arr : Proc.devRef .tc main_v5 ∈ arrs := by decide

set_option backward.isDefEq.respectTransparency.types false in
/-- The region holding the exchange. -/
def region0 : ℝ𝕊 0 :=
  Pipeline.RegionSeg.ofTalk (pcfgs (F := F)) adm (pdats m) () defs₀ 𝒱₀ lset lev 0 osem (by decide : Pipeline.OwnSemFacts spec0 osem)
    ∅ (bufs \ arrs) (Finset.empty_subset _) kitP rfl (fun c => (point m c).loose)
    (fun _ => 0) debt (fun c => (owed_zero m c).trans (zero_add _).symm) (owed_last m) (fun _ => rfl)
    (fun c w => by unfold Dat.share; split <;> rfl)
    (V₁ m) (V₂ m)
    (fun c b hb => V₂_of_ne m c b fun e => (Finset.mem_sdiff.mp (Finset.mem_sdiff.mp hb).1).2 (e ▸ v5_arr))
    (start m) (fun c => semVal (gate c) 0) (opened m) (fun c => semVal (gate c) 0) (open_start m) (enter m) (leave m)
    (fun c => by iintro H; imodintro; iexact H)
    (fun _ => 0)
    ⟨fun c w s => mem_lset c _,
      fun c w s => by show lev _ () ≤ 0; unfold lev; rw [if_neg (by intro h; cases h), if_neg (stage_low w s)],
      fun c t g i h => debt_cut m c t g i h⟩
    (fun _ => iprop(emp))
    (fun c w => rfl) (fun c w => arr_end m c w)

theorem region_pre (c : Dev nD) : iprop(StableHlo.held (c : Thread nD τ) bufs (V₁ m c) ∗ beside m c) ⊢ (region0 m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ start m c ∗ ∃ Wd, owes (c : Thread nD τ) (0 + debt c) Wd)
  rw [zero_add, StableHlo.held_sub_split (c.tc : Thread nD τ) arrs_sub (V₁ m c)]
  unfold beside
  iintro ⟨⟨Ha, Hr⟩, ⟨Hst, Hp⟩, HO⟩
  isplitl [Ha]; · iexact Ha
  isplitl [Hp]; · iexact Hp
  isplitl [Hr]
  · isplitl [Hr]; · iexact Hr
    iempintro
  isplitl [Hst] <;> iassumption

theorem region_post (c : Dev nD) : (region0 m).post c
    ⊢ iprop(StableHlo.held (c : Thread nD τ) bufs (V₂ m c) ∗ (semVal (gate c) 0 ∗ ∃ W, owes (c : Thread nD τ) (0 : CellTallies nD τ sig Unit) W)) := by
  show iprop(StableHlo.held (c.tc : Thread nD τ) arrs (V₂ m c) ∗ (∃ r, prngReg c r)
    ∗ (StableHlo.held (c.tc : Thread nD τ) (bufs \ arrs) (V₂ m c) ∗ emp) ∗ semVal (gate c) 0
    ∗ ∃ Wd, owes (c : Thread nD τ) (0 : CellTallies nD τ sig Unit) Wd) ⊢ _
  rw [StableHlo.held_sub_split (c.tc : Thread nD τ) arrs_sub (V₂ m c)]
  iintro ⟨Ha, -, ⟨Hr, -⟩, Hg, HO⟩
  isplitl [Ha Hr]; · isplitl [Ha] <;> iassumption
  isplitl [Hg] <;> iassumption

/-- The program as its list of segments. -/
def segs : List (Pipeline.Seg (pcfgs (F := F)) adm (pdats m) () defs₀ 𝒱₀ lset lev) := [.host (host0 m), .region (region0 m)]

theorem main_runs_segs (c : Dev nD) : main (F := F) c = Pipeline.Seg.run (segs m) :=
  main_segs adm (pdats m) () 𝒱₀ lset lev (host0 m) (region0 m) rfl c

/-! ## Launch -/

theorem osem_inj : Function.Injective osem := by decide
theorem osem_ne_gate : ∀ k : Fin 2, osem k ≠ .reg gateS := by decide

def gateEmb : Dev nD ↪ GSem nD τ sig := ⟨fun c => gate c, fun _ _ h => congrArg (fun g : GSem nD τ sig => g.1.1) h⟩
def ownEmb : Dev nD × Fin 2 ↪ GSem nD τ sig :=
  ⟨fun ck => ((ck.1 : Thread nD τ), osem ck.2), fun _ _ h =>
    Prod.ext (congrArg (fun g : GSem nD τ sig => g.1.1) h) (osem_inj (congrArg Prod.snd h))⟩

/-- The gates, funded at once; the two scoped cells of each device, funded but shut; one token a cell. -/
abbrev gates : Finset (GSem nD τ sig) := Finset.univ.map gateEmb
abbrev owns2 : Finset (GSem nD τ sig) := Finset.univ.map ownEmb
abbrev allsem : Fin 3 → SemLoc sig := fun | 0 => .reg gateS | 1 => .dma outS | 2 => .dma innS
theorem allsem_inj : Function.Injective allsem := by decide
def duties : Finset (GSem nD τ sig × ℕ × Unit) :=
  Finset.univ.map ⟨fun ck : Dev nD × Fin 3 => (((ck.1 : Thread nD τ), allsem ck.2), 0, ()), fun _ _ h =>
    Prod.ext (congrArg (fun t : GSem nD τ sig × ℕ × Unit => t.1.1.1) h)
      (allsem_inj (congrArg (fun t : GSem nD τ sig × ℕ × Unit => t.1.2) h))⟩

theorem apart : Disjoint (gates : Finset (GSem nD τ sig)) owns2 := by
  rw [Finset.disjoint_left]
  rintro g h₁ h₂
  obtain ⟨c, -, rfl⟩ := Finset.mem_map.mp h₁
  obtain ⟨ck, -, h⟩ := Finset.mem_map.mp h₂
  exact osem_ne_gate ck.2 (congrArg Prod.snd h)

theorem gate_mem (c : Dev nD) : gate c ∈ (gates ∪ owns2 : Finset (GSem nD τ sig)) :=
  Finset.mem_union_left _ (Finset.mem_map_of_mem gateEmb (Finset.mem_univ c))
theorem left_mem (c : Dev nD) : left c ∈ (gates ∪ owns2 : Finset (GSem nD τ sig)) :=
  Finset.mem_union_right _ (Finset.mem_map_of_mem ownEmb (Finset.mem_univ (c, (0 : Fin 2))))
theorem landed_mem (c : Dev nD) : landed c ∈ (gates ∪ owns2 : Finset (GSem nD τ sig)) :=
  Finset.mem_union_right _ (Finset.mem_map_of_mem ownEmb (Finset.mem_univ (c, (1 : Fin 2))))

/-- The launch element: the staging cells' and the exchange's. -/
def u₀ : UU :=
  (initOf (Pipeline.cells (Pipeline.pin (pcfgs (F := F)) adm) cellOf_inj) (Pipeline.launchToks (Pipeline.pin (pcfgs (F := F)) adm) cellOf_inj),
    launchOf gates owns2 duties)

/-- A resource kept whole on one device. -/
def parked (c₀ : Dev nD) (X : sProp 𝕄) (c : Dev nD) : sProp 𝕄 := if c = c₀ then X else iprop(emp)
theorem bigSep_parked (c₀ : Dev nD) (X : sProp 𝕄) : bigSep Finset.univ (parked c₀ X) = X := by
  rw [bigSep_univ_at _ c₀, bigSep_congr (s := Finset.univ.erase c₀) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def seed : Dev nD → sProp 𝕄 := parked 0 (BI.own (EX (launchOf gates owns2 duties)))

/-- What every device may consult: all invariants under one map of names, every gate's round open. -/
def records (κ : GSem nD τ sig → ℕ) : sProp 𝕄 :=
  iprop((bigSep (gates ∪ owns2) fun g => cellInv EX (plan m) (κ g) g) ∗ bigSep gates fun g => reached EX g 0)

instance records_persistent (κ : GSem nD τ sig → ℕ) : BI.Persistent (records m κ) := by unfold records; infer_instance

theorem inv_at (κ : GSem nD τ sig → ℕ) {g : GSem nD τ sig} (hg : g ∈ (gates ∪ owns2 : Finset (GSem nD τ sig))) :
    (bigSep (gates ∪ owns2) fun g => (cellInv EX (plan m) (κ g) g : sProp 𝕄)) ⊢ cellInv EX (plan m) (κ g) g :=
  bigSep_elim hg

theorem reached_at (c : Dev nD) : (bigSep gates fun g => (reached EX g 0 : sProp 𝕄)) ⊢ reached EX (gate c) 0 :=
  bigSep_elim (Finset.mem_map_of_mem gateEmb (Finset.mem_univ c))

/-- What goes to device `c` alone. -/
def share (c : Dev nD) : sProp 𝕄 :=
  iprop(atPos EX (gate c) 0 ∅ 0 ∗ (openTok EX (left c) ∗ openTok EX (landed c)) ∗ tickets c)

theorem shut_intro (κ : GSem nD τ sig → ℕ) (c : Dev nD) : iprop(records m κ ∗ share c) ⊢ iprop(∃ K, shut m K c) := by
  unfold records share shut invs
  iintro ⟨⟨#HI, #HR⟩, Hg, ⟨HoS, HoV⟩, Ht⟩
  iexists κ
  isplitr
  · isplitr; · iapply (inv_at m κ (gate_mem c)); iexact HI
    isplitr; · iapply (inv_at m κ (left_mem c)); iexact HI
    isplitr; · iapply (inv_at m κ (landed_mem c)); iexact HI
    isplitr; · iapply (inv_at m κ (gate_mem (mate c))); iexact HI
    iapply (inv_at m κ (landed_mem (mate c))); iexact HI
  isplitl [Hg]; · iexact Hg
  isplitl [HoS]; · iexact HoS
  isplitl [HoV]; · iexact HoV
  isplitr; · iapply (reached_at (F := F) (mate c)); iexact HR
  iexact Ht

theorem bigSep_fin3 (Φ : Fin 3 → sProp 𝕄) : bigSep Finset.univ Φ = iprop(Φ 0 ∗ Φ 1 ∗ Φ 2) :=
  bigSep_univ_eq_bigSepL [(0 : Fin 3), 1, 2] (by decide) (by decide) Φ

/-- Each device's three tokens, gate and arrival handed across to the partner. -/
theorem deal : bigSep duties (fun x => (dutyTok EX x.1 x.2.1 x.2.2 : sProp 𝕄)) ⊢ bigSep Finset.univ fun c : Dev nD => tickets c := by
  have e : bigSep duties (fun x => (dutyTok EX x.1 x.2.1 x.2.2 : sProp 𝕄))
      = bigSep Finset.univ fun c : Dev nD => iprop(dutyTok EX (gate c) 0 () ∗ dutyTok EX (left c) 0 () ∗ dutyTok EX (landed c) 0 ()) := by
    unfold duties; rw [bigSep_map, bigSep_univ_prod]
    exact bigSep_congr fun c _ => by rw [bigSep_fin3]; rfl
  rw [e]
  unfold tickets
  rw [bigSep_sep', bigSep_sep', bigSep_sep', bigSep_sep', bigSep_univ_equiv mateEquiv (fun c : Dev nD => (dutyTok EX (gate c) 0 () : sProp 𝕄)),
    bigSep_univ_equiv mateEquiv (fun c : Dev nD => (dutyTok EX (landed c) 0 () : sProp 𝕄))]
  exact BI.Entails.refl _

/-! ### The launch credit -/

theorem cell_dev {c d : Dev nD} {s s' : SemLoc sig} (h : (((c : Thread nD τ), s) : GSem nD τ sig) = ((mate d : Thread nD τ), s')) : d = mate c := by
  have : c = mate d := congrArg (fun g : GSem nD τ sig => g.1.1) h
  rw [this, mate_mate]

theorem debt_gate (d c : Dev nD) : debt d (gate c) () = if d = mate c then 1 else 0 := by
  unfold debt
  rw [Pi.add_apply, Finsupp.add_apply, tallyAt_ne_cell (fun h => inn_ne_gate (congrArg Prod.snd h).symm), tallyAt_apply, Finsupp.zero_apply, Nat.zero_add]
  by_cases h : d = mate c
  · subst h; rw [mate_mate, if_pos ⟨rfl, rfl⟩, if_pos rfl]
  · rw [if_neg (fun ⟨h1, _⟩ => h (cell_dev h1)), if_neg h]

theorem debt_landed (d c : Dev nD) : debt d (landed c) () = if d = mate c then Nmsg else 0 := by
  unfold debt
  rw [Pi.add_apply, Finsupp.add_apply, tallyAt_apply, tallyAt_ne_cell (fun h => inn_ne_gate (congrArg Prod.snd h)), Finsupp.zero_apply, Nat.add_zero]
  by_cases h : d = mate c
  · subst h; rw [mate_mate, if_pos ⟨rfl, rfl⟩, if_pos rfl]
  · rw [if_neg (fun ⟨h1, _⟩ => h (cell_dev h1)), if_neg h]

theorem credit_gate (c : Dev nD) :
    tallyOn (gate c) (launchCredit (Pipeline.owing debt) 0 (gate c)) = (tallyAt (gate c) () 1 : CellTallies nD τ sig Unit) := by
  unfold tallyAt; refine congrArg _ (Finsupp.ext fun u => ?_); cases u
  rw [Pipeline.launchCredit_owing, Finsupp.single_eq_same, Finset.sum_congr rfl fun d _ => debt_gate d c,
    Finset.sum_ite_eq' Finset.univ (mate c) fun _ => 1, if_pos (Finset.mem_univ _)]

theorem credit_arrival (c : Dev nD) :
    tallyOn (landed c) (launchCredit (Pipeline.owing debt) 0 (landed c)) = (tallyAt (landed c) () Nmsg : CellTallies nD τ sig Unit) := by
  unfold tallyAt; refine congrArg _ (Finsupp.ext fun u => ?_); cases u
  rw [Pipeline.launchCredit_owing, Finsupp.single_eq_same, Finset.sum_congr rfl fun d _ => debt_landed d c,
    Finset.sum_ite_eq' Finset.univ (mate c) fun _ => Nmsg, if_pos (Finset.mem_univ _)]

theorem earned (c : Dev nD) : (Pipeline.launchCred debt c : sProp 𝕄) ⊢ wages c := by
  unfold Pipeline.launchCred wages
  rw [bigSep_univ_at _ (SemLoc.reg gateS), credit_gate]
  refine sep_mono_right ?_
  rw [← credit_arrival]
  exact bigSep_elim (Finset.mem_erase.mpr ⟨inn_ne_gate, Finset.mem_univ _⟩)

/-! ### The run -/

abbrev first (c : Dev nD) : sProp 𝕄 := iprop(StableHlo.held (c : Thread nD τ) bufs (V₀ m c) ∗ beside m c)
abbrev last (c : Dev nD) : sProp 𝕄 := iprop(StableHlo.held (c : Thread nD τ) bufs (V₂ m c) ∗ semVal (gate c) 0)

/-- What a device holds at launch besides the exchange's ghost state. -/
def bundle (c : Dev nD) : sProp 𝕄 :=
  iprop(StableHlo.held (c : Thread nD τ) bufs (V₀ m c) ∗ wages c ∗ owes (c : Thread nD τ) (debt c) ∅ ∗ ∃ r, prngReg c r)

theorem first_intro (κ : GSem nD τ sig → ℕ) (c : Dev nD) : iprop(records m κ ∗ (share c ∗ bundle m c)) ⊢ first m c := by
  unfold bundle first beside start
  iintro ⟨#HR, Hl, Hh, Hw, HO, Hp⟩
  isplitl [Hh]; · iexact Hh
  isplitr [HO]
  · isplitr [Hp]
    · isplitl [Hl]
      · iapply (shut_intro m κ c)
        isplitr; · iexact HR
        iexact Hl
      iexact Hw
    iexact Hp
  · iexists ∅; iexact HO

/-- Something every device may consult goes to all of them. -/
theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  bigSep_with_persistent (R := R) (Φ := Φ) fun c _ => h c

/-- The launch: every cell's invariant allocated, the scoped ones shut, and everything dealt out. -/
theorem launches :
    iprop((bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ seed c)) ∗ levAts lset lev)
      ⊢ (|={Set.univ}=> bigSep Finset.univ (first m) : sProp 𝕄) := by
  have each (c : Dev nD) : iprop(unscopedBufs c (fun b => m ((c : Thread nD τ).loc b)) ∗ unscopedSems0 c
        ∗ owes (c : Thread nD τ) (debt c) ∅ ∗ Pipeline.launchCred debt c ∗ prngReg c (ρ c) ∗ seed c)
      ⊢ (iprop(bundle m c ∗ (semVal (gate c) 0 ∗ seed c)) : sProp 𝕄) := by
    rw [show unscopedBufs c (fun b => m ((c : Thread nD τ).loc b)) = StableHlo.held (c : Thread nD τ) bufs (V₀ m c) from kept_held c (V₀ m c),
      kept_sems]
    unfold bundle
    iintro ⟨Hh, Hus, HO, Hcr, Hp, HG⟩
    ihave Hw := (earned (F := F) c) $$ Hcr
    isplitl [Hh Hw HO Hp]
    · isplitl [Hh]; · iexact Hh
      isplitl [Hw]; · iexact Hw
      isplitl [HO]; · iexact HO
      iexists (ρ c); iexact Hp
    isplitl [Hus] <;> iassumption
  have hv : bigSep Finset.univ (fun c : Dev nD => (semVal (gate c) 0 : sProp 𝕄)) ⊢ bigSep gates (fun g => (semVal g 0 : sProp 𝕄)) :=
    Entails.of_eq (bigSep_map (s := Finset.univ) gateEmb (Φ := fun g : GSem nD τ sig => (semVal g 0 : sProp 𝕄))).symm
  have hat : bigSep gates (fun g => (atPos EX g 0 ∅ 0 : sProp 𝕄)) ⊢ bigSep Finset.univ (fun c : Dev nD => (atPos EX (gate c) 0 ∅ 0 : sProp 𝕄)) :=
    Entails.of_eq (bigSep_map (s := Finset.univ) gateEmb (Φ := fun g : GSem nD τ sig => (atPos EX g 0 ∅ 0 : sProp 𝕄)))
  have hopen : bigSep owns2 (fun g => (openTok EX g : sProp 𝕄))
      ⊢ bigSep Finset.univ (fun c : Dev nD => iprop(openTok EX (left c) ∗ openTok EX (landed c))) :=
    Entails.of_eq (by
      rw [bigSep_map, bigSep_univ_prod]
      exact bigSep_congr fun c _ => BI.bigSep_fin_two (fun k : Fin 2 => (openTok EX ((c : Thread nD τ), osem k) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ seed c))
      ⊢ (bigSep Finset.univ fun c : Dev nD => iprop(bundle m c ∗ (semVal (gate c) 0 ∗ seed c)) : sProp 𝕄) from bigSep_mono fun c _ => each c) $$ H
  ihave H2 := (Entails.of_eq (bigSep_sep' (s := Finset.univ) (Φ := fun c : Dev nD => bundle (F := F) m c) (Ψ := fun c => iprop(semVal (gate c) 0 ∗ seed c)))) $$ H'
  icases H2 with ⟨HB, H3⟩
  ihave H4 := (Entails.of_eq (bigSep_sep' (s := Finset.univ) (Φ := fun c : Dev nD => (semVal (gate c) 0 : sProp 𝕄)) (Ψ := seed))) $$ H3
  icases H4 with ⟨Hv, HG⟩
  ihave Hu := (show bigSep Finset.univ (seed (F := F)) ⊢ BI.own (EX (launchOf gates owns2 duties)) from
    Entails.of_eq (bigSep_parked (F := F) 0 (BI.own (EX (launchOf gates owns2 duties))))) $$ HG
  imod (Rounds.fund_launch EX (plan m) apart (fun g _ h => h) duties) $$ [Hv Hu] with ⟨%κ, -, #Hinv, #Hr, Hat, Hopen, Htok⟩
  · isplitl [Hv]
    · iapply hv $$ Hv
    · iexact Hu
  imodintro
  iapply (with_records (R := records m κ) (Φ := fun c => iprop(share c ∗ bundle m c)) fun c => first_intro m κ c)
  isplitr
  · unfold records
    isplitr; · iexact Hinv
    iexact Hr
  rw [bigSep_sep']
  isplitr [HB]
  · unfold share
    rw [bigSep_sep', bigSep_sep' (Ψ := fun c : Dev nD => (tickets c : sProp 𝕄))]
    isplitl [Hat]; · iapply hat $$ Hat
    isplitl [Hopen]; · iapply hopen $$ Hopen
    iapply (deal (F := F)) $$ Htok
  · iexact HB

theorem kept_sem : ∀ sm : SemLoc sig, sm.isScoped .tc = false → sm = .reg gateS := by decide

set_option backward.isDefEq.respectTransparency.types false in
/-- From any memory with all counters at zero, every fair execution on the 32 devices ends, with the five arguments as they
    were, every device's result at its merged block, and every semaphore counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v5) = merged m c) ∧ r.2.sem = fun _ => 0) :=
  Pipeline.θ_run_regions_kit_sems (pcfgs (F := F)) adm (pdats m) () cellOf_inj EP defs₀ 𝒱₀ lset lev m ρ main (segs m)
    (fun c Q => by rw [main_runs_segs m c])
    (by simp only [segs, Pipeline.Seg.pipes_host, Pipeline.Seg.pipes_region, Pipeline.Seg.pipes_nil]; decide)
    (O₀ := debt) (hL := lset_of_ne) (G := seed) (u₀ := u₀)
    (hu₀ := by
      unfold u₀ seed
      iintro Hu
      ihave H := (ownU_pair _ _) $$ Hu
      icases H with ⟨HP, HX⟩
      imodintro
      isplitl [HP]; · iexact HP
      rw [bigSep_parked]; iexact HX)
    (T₀ := first m) (Tₙ := last m)
    (hch := by
      refine ⟨fun c => .rfl, fun c => region_pre m c, fun c => (region_post m c).trans ?_⟩
      show iprop(StableHlo.held (c : Thread nD τ) bufs (V₂ m c)
          ∗ (semVal (gate c) 0 ∗ ∃ W, owes (c : Thread nD τ) (0 : CellTallies nD τ sig Unit) W))
        ⊢ iprop(last m c ∗ ∃ W, owes (c : Thread nD τ) (0 : CellTallies nD τ sig Unit) W)
      iintro ⟨Hh, Hg, HO⟩
      isplitr [HO]
      · isplitl [Hh] <;> iassumption
      · iexact HO)
    (hinit := launches m ρ)
    (QY := fun c s => ((s.mem ((c : Thread nD τ).loc main_arg0) = V₂ m c main_arg0 ∧ s.mem ((c : Thread nD τ).loc main_arg1) = V₂ m c main_arg1
        ∧ s.mem ((c : Thread nD τ).loc main_arg2) = V₂ m c main_arg2 ∧ s.mem ((c : Thread nD τ).loc main_arg3) = V₂ m c main_arg3
        ∧ s.mem ((c : Thread nD τ).loc main_arg4) = V₂ m c main_arg4) ∧ s.mem ((c : Thread nD τ).loc main_v5) = V₂ m c main_v5) ∧ s.sem (gate c) = 0)
    (hfin := fun c s' => by
      dsimp only [last]; rw [bufs_eq]
      iintro ⟨⟨⟨H0, H1, H2, H3, H4, -, -, -, -, H5⟩, Hg⟩, HSI⟩
      icombine HSI H0 gives %h0
      icombine HSI H1 gives %h1
      icombine HSI H2 gives %h2
      icombine HSI H3 gives %h3
      icombine HSI H4 gives %h4
      icombine HSI H5 gives %h5
      icombine HSI Hg gives %hg
      imodintro
      isplitr
      · ipureintro
        exact ⟨⟨⟨Buf.eq_of_forall_mem_univ h0, Buf.eq_of_forall_mem_univ h1, Buf.eq_of_forall_mem_univ h2, Buf.eq_of_forall_mem_univ h3,
          Buf.eq_of_forall_mem_univ h4⟩, Buf.eq_of_forall_mem_univ h5⟩, by simpa using hg⟩
      iexact HSI)
    (hQ := fun s h hs => ⟨fun c => by
        obtain ⟨⟨⟨h0, h1, h2, h3, h4⟩, h5⟩, -⟩ := h c
        exact ⟨⟨h0.trans ((V₂_of_ne m c _ (by decide)).trans (V_main_arg0 m c)), h1.trans ((V₂_of_ne m c _ (by decide)).trans (V_main_arg1 m c)),
          h2.trans ((V₂_of_ne m c _ (by decide)).trans (V_main_arg2 m c)), h3.trans ((V₂_of_ne m c _ (by decide)).trans (V_main_arg3 m c)),
          h4.trans ((V₂_of_ne m c _ (by decide)).trans (V_main_arg4 m c))⟩, h5.trans (V₂_v5 m c)⟩,
      sem_eq_zero hs fun c sm hsm => by
        obtain rfl := kept_sem sm hsm
        exact (h c).2⟩)

end Cert.KernelIdeal.Swap

end
-- ==== Proof.Frames.lean ====
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

/-! The three programs run to their ends, leave their arguments alone and every counter at zero. -/

@[expose] public section

set_option maxRecDepth 16384

noncomputable section

namespace Cert.Proof

open Idealize.ShloMosaic Idealize.SL.Sem

attribute [local instance] Cert.Kernel.Gen.facts Cert.KernelIdeal.Gen.facts Cert.ReferenceIdeal.Gen.facts

/-- The two printings of the kernel's body are one body. -/
theorem defs₀_eq (F : FTy → Type) [FloatOps F] : @Cert.Kernel.defs₀ F _ _ = @Cert.KernelIdeal.defs₀ F _ _ := by
  refine congrArg Defs.onTc (funext fun l => funext fun a => ?_)
  obtain ⟨l, hl⟩ := l
  match l, hl with
  | 0, _ => obtain ⟨t, s⟩ := a; rfl

/-- The two printings have one body table. -/
theorem defs_eq (F : FTy → Type) [FloatOps F] : @Cert.Kernel.defs F _ _ = @Cert.KernelIdeal.defs F _ _ := by
  unfold Cert.Kernel.defs Cert.KernelIdeal.defs
  rw [defs₀_eq]; rfl

set_option maxHeartbeats 1600000 in
/-- The kernel as printed, on words: it runs, its arguments end unchanged, every counter ends at zero. -/
theorem frame_kernel : Cert.quiescent_Kernel := fun m ρ _ => by
  have h := (θ_run (Cert.KernelIdeal.defs (F := Bits)) _ _).mono
    (Q' := fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)
    (fun r h => ⟨fun c => (h.1 c).1, h.2⟩) (Cert.KernelIdeal.Swap.run_main (F := Bits) m ρ)
  rw [← defs_eq Bits] at h
  exact h

/-- The kernel on extended reals: the same. -/
theorem frame_ideal : Cert.quiescent_KernelIdeal := fun m ρ _ =>
  (θ_run (Cert.KernelIdeal.defs (F := Ideal)) _ _).mono (fun r h => ⟨fun c => (h.1 c).1, h.2⟩)
    (Cert.KernelIdeal.Swap.run_main (F := Ideal) m ρ)

/-- The reference: the same. -/
theorem frame_reference : Cert.quiescent_ReferenceIdeal := fun m ρ _ =>
  (θ_run (Cert.ReferenceIdeal.defs (F := Ideal)) _ _).mono
    (fun r h => ⟨fun c => (h c).2, sem_eq_zero_of_no_sems rfl _⟩) (Cert.ReferenceIdeal.Value.run (F := Ideal) m ρ)

end Cert.Proof

end
-- ==== Proof.Softmax.lean ====
module

public import Idealize.ShloMosaic.Lib.Pointwise
public import Idealize.ShloMosaic.Lib.ValueIdx

/-!
# A softmax merged from two halves

The arithmetic of the claim, over the extended reals and with no program in sight. Sixty-four
table entries, some of them live, each naming one of 128 pages of sixteen rows. One side sums over
the entries; the other sums over the pages, half of them at a time, each page weighted by how many
live entries name it, and merges the two halves under their common largest score.
-/

@[expose] public section

open Idealize.ShloMosaic
open scoped BigOperators

namespace Cert.Paged

/-- The block a row of the flattened table or pool lies in. -/
def hi (k : Fin 1024) : Fin 64 := ⟨k.val / 16, by omega⟩

/-- The place of a row inside its block. -/
def lo (k : Fin 1024) : Fin 16 := ⟨k.val % 16, by omega⟩

/-- A sum over the flattened rows is a sum over blocks and the places inside them. -/
theorem sum_rows {M : Type*} [AddCommMonoid M] (f : Fin 64 → Fin 16 → M) :
    ∑ k : Fin 1024, f (hi k) (lo k) = ∑ j : Fin 64, ∑ i : Fin 16, f j i := by
  rw [← Fintype.sum_prod_type' f]
  refine Fintype.sum_equiv (finProdFinEquiv (m := 64) (n := 16)).symm _ _ fun k => ?_
  congr 1

/-- Multiplying a finite sum by a nonnegative real multiplies every term. -/
theorem sum_mul_real {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The embedding of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of nonnegative reals times any value is the sum of the products. -/
theorem real_sum_mul {ι : Type*} (s : Finset ι) (f : ι → ℝ) (hf : ∀ i, 0 ≤ f i) (u : EReal) :
    ((∑ i ∈ s, f i : ℝ) : EReal) * u = ∑ i ∈ s, (f i : EReal) * u := by
  classical
  induction s using Finset.induction_on with
  | empty => simp
  | insert a s ha ih =>
    rw [Finset.sum_insert ha, Finset.sum_insert ha, EReal.coe_add,
      EReal.right_distrib_of_nonneg (by exact_mod_cast hf a)
        (by exact_mod_cast Finset.sum_nonneg fun i _ => hf i), ih]

/-- A largest value among finitely many, none of them `⊤` and at least one real, is real. -/
theorem fold_max_real {ι : Type*} [Fintype ι] (f : ι → EReal) (hf : ∀ i, f i ≠ ⊤) (i₀ : ι)
    (h₀ : f i₀ ≠ ⊥) : ∃ r : ℝ, Finset.univ.fold max (⊥ : EReal) f = (r : EReal) := by
  have hle : f i₀ ≤ Finset.univ.fold max (⊥ : EReal) f :=
    Finset.le_fold_max _ |>.2 (Or.inr ⟨i₀, Finset.mem_univ _, le_rfl⟩)
  have hlt : Finset.univ.fold max (⊥ : EReal) f < ⊤ :=
    Finset.fold_max_lt _ |>.2 ⟨bot_lt_top, fun i _ => lt_top_iff_ne_top.2 (hf i)⟩
  have hne : Finset.univ.fold max (⊥ : EReal) f ≠ ⊥ := fun h =>
    h₀ (le_bot_iff.1 (h ▸ hle))
  exact ⟨_, (EReal.coe_toReal hlt.ne hne).symm⟩

/-- What a request asks of one query row: which entries are live, the page each names, and the
score of that row against every row of the pool. -/
structure Ask where
  live : Fin 64 → Prop
  dec : DecidablePred live
  page : Fin 64 → Fin 128
  score : Fin 128 → Fin 16 → ℝ
  first : live 0

attribute [instance] Ask.dec

namespace Ask

variable (a : Ask)

/-- The weight of one row of one table entry, scores being taken relative to `t`. -/
noncomputable def g (t : ℝ) (j : Fin 64) (i : Fin 16) : ℝ :=
  if a.live j then Real.exp (a.score (a.page j) i - t) else 0

/-- The sum of the weights. -/
noncomputable def Z (t : ℝ) : ℝ := ∑ j : Fin 64, ∑ i : Fin 16, a.g t j i

theorem g_nonneg (t : ℝ) (j : Fin 64) (i : Fin 16) : 0 ≤ a.g t j i := by
  unfold g; split
  · exact (Real.exp_pos _).le
  · exact le_rfl

theorem g_shift (t : ℝ) (j : Fin 64) (i : Fin 16) : a.g t j i = a.g 0 j i * Real.exp (-t) := by
  unfold g; split
  · rw [← Real.exp_add]; congr 1; ring
  · simp

theorem Z_shift (t : ℝ) : a.Z t = a.Z 0 * Real.exp (-t) := by
  unfold Z
  rw [Finset.sum_mul]
  refine Finset.sum_congr rfl fun j _ => ?_
  rw [Finset.sum_mul]
  exact Finset.sum_congr rfl fun i _ => a.g_shift t j i

theorem Z_pos (t : ℝ) : 0 < a.Z t := by
  refine Finset.sum_pos' (fun j _ => Finset.sum_nonneg fun i _ => a.g_nonneg t j i)
    ⟨0, Finset.mem_univ _, ?_⟩
  refine Finset.sum_pos' (fun i _ => a.g_nonneg t 0 i) ⟨0, Finset.mem_univ _, ?_⟩
  unfold g
  rw [if_pos a.first]
  exact Real.exp_pos _

/-- The normalized weight does not depend on what the scores are taken relative to. -/
theorem ratio (t t' : ℝ) (j : Fin 64) (i : Fin 16) : a.g t j i / a.Z t = a.g t' j i / a.Z t' := by
  rw [a.g_shift t, a.g_shift t', a.Z_shift t, a.Z_shift t',
    mul_div_mul_right _ _ (Real.exp_pos _).ne', mul_div_mul_right _ _ (Real.exp_pos _).ne']

/-- The attention of this row to one column of values. -/
noncomputable def answer (u : Fin 128 → Fin 16 → EReal) : EReal :=
  ∑ j : Fin 64, ∑ i : Fin 16, ((a.g 0 j i / a.Z 0 : ℝ) : EReal) * u (a.page j) i

/-! ### Over the entries -/

/-- The masked score of a row of the gathered table. -/
noncomputable def masked (k : Fin 1024) : EReal :=
  if a.live (hi k) then (a.score (a.page (hi k)) (lo k) : EReal) else ⊥

theorem masked_ne_top (k : Fin 1024) : a.masked k ≠ ⊤ := by
  unfold masked; split
  · exact EReal.coe_ne_top _
  · exact bot_ne_top

theorem exp_masked (t : ℝ) (k : Fin 1024) :
    Ideal.exp (a.masked k - (t : EReal)) = (a.g t (hi k) (lo k) : EReal) := by
  unfold masked g
  by_cases h : a.live (hi k)
  · rw [if_pos h, if_pos h, ← EReal.coe_sub, Ideal.exp_coe]
  · rw [if_neg h, if_neg h, EReal.bot_sub, Ideal.exp_bot]; rfl

/-- Softmax over the masked scores, against a column of values read entry by entry: the weights
of entries not live are zero, whatever values those entries read. -/
theorem by_entries (u : Fin 128 → Fin 16 → EReal) (v : Fin 1024 → EReal)
    (hv : ∀ k, a.live (hi k) → v k = u (a.page (hi k)) (lo k)) :
    ∑ k : Fin 1024, v k * Ideal.div
        (Ideal.exp (a.masked k - Finset.univ.fold max (⊥ : EReal) a.masked))
        (∑ k' : Fin 1024, Ideal.exp (a.masked k' - Finset.univ.fold max (⊥ : EReal) a.masked))
      = a.answer u := by
  obtain ⟨t, ht⟩ := fold_max_real a.masked a.masked_ne_top 0 (by
    unfold masked
    rw [if_pos (show a.live (hi 0) from a.first)]
    exact EReal.coe_ne_bot _)
  rw [ht]
  simp only [exp_masked]
  have hZ : ∑ k' : Fin 1024, (a.g t (hi k') (lo k') : EReal) = ((a.Z t : ℝ) : EReal) := by
    rw [← coe_sum, sum_rows (fun j i => a.g t j i)]; rfl
  rw [hZ]
  unfold answer
  rw [← sum_rows (fun j i => ((a.g 0 j i / a.Z 0 : ℝ) : EReal) * u (a.page j) i)]
  refine Finset.sum_congr rfl fun k _ => ?_
  rw [Ideal.div_coe (a.Z_pos t).ne', ← EReal.coe_mul, mul_one_div, a.ratio t 0, mul_comm]
  by_cases h : a.live (hi k)
  · rw [hv k h]
  · have : a.g 0 (hi k) (lo k) = 0 := by unfold g; rw [if_neg h]
    rw [this]; simp

/-! ### Over the pages -/

/-- How many live entries name a page. -/
noncomputable def count (q : Fin 128) : ℝ :=
  ∑ j : Fin 64, if a.live j ∧ a.page j = q then (1 : ℝ) else 0

theorem count_nonneg (q : Fin 128) : 0 ≤ a.count q :=
  Finset.sum_nonneg fun j _ => by split <;> norm_num

/-- The weight of one row of a page named by some live entries. -/
noncomputable def e (t : ℝ) (q : Fin 128) (i : Fin 16) : ℝ :=
  a.count q * Real.exp (a.score q i - t)

theorem e_nonneg (t : ℝ) (q : Fin 128) (i : Fin 16) : 0 ≤ a.e t q i :=
  mul_nonneg (a.count_nonneg q) (Real.exp_pos _).le

theorem e_move (t t' : ℝ) (q : Fin 128) (i : Fin 16) :
    a.e t q i * Real.exp (t - t') = a.e t' q i := by
  unfold e
  rw [mul_assoc, ← Real.exp_add]; congr 2; ring

/-- Counting live entries page by page is summing over the live entries. -/
theorem sum_pages (t : ℝ) (u : Fin 128 → Fin 16 → EReal) :
    ∑ q : Fin 128, ∑ i : Fin 16, (a.e t q i : EReal) * u q i
      = ∑ j : Fin 64, ∑ i : Fin 16, (a.g t j i : EReal) * u (a.page j) i := by
  rw [Finset.sum_comm, Finset.sum_comm (s := (Finset.univ : Finset (Fin 64)))]
  refine Finset.sum_congr rfl fun i _ => ?_
  have h1 : ∀ q : Fin 128, (a.e t q i : EReal) * u q i
      = ∑ j : Fin 64, if a.page j = q then (a.g t j i : EReal) * u (a.page j) i else 0 := by
    intro q
    have : a.e t q i = ∑ j : Fin 64, if a.page j = q then a.g t j i else 0 := by
      unfold e count g
      rw [Finset.sum_mul]
      refine Finset.sum_congr rfl fun j _ => ?_
      by_cases hp : a.page j = q
      · subst hp
        by_cases hl : a.live j <;> simp [hl]
      · simp [hp]
    rw [this, real_sum_mul _ _ (fun j => by
      split
      · exact a.g_nonneg t j i
      · exact le_rfl)]
    refine Finset.sum_congr rfl fun j _ => ?_
    by_cases hp : a.page j = q
    · rw [if_pos hp, if_pos hp, hp]
    · rw [if_neg hp, if_neg hp]; simp
  rw [Finset.sum_congr rfl fun q _ => h1 q, Finset.sum_comm]
  refine Finset.sum_congr rfl fun j _ => ?_
  simp

/-- The sum of the weights, page by page. -/
theorem sum_pages_real (t : ℝ) : ∑ q : Fin 128, ∑ i : Fin 16, a.e t q i = a.Z t := by
  have h := a.sum_pages t (fun _ _ => 1)
  simp only [mul_one] at h
  simp only [← coe_sum] at h
  exact EReal.coe_injective h

/-- The page a device of half `x` keeps at place `n`. -/
def at_ (x : Fin 2) (n : Fin 64) : Fin 128 := ⟨64 * x.val + n.val, by omega⟩

/-- A sum over the pages is a sum over both halves. -/
theorem sum_halves {M : Type*} [AddCommMonoid M] (f : Fin 128 → M) (x : Fin 2) :
    ∑ q : Fin 128, f q = ∑ n : Fin 64, f (at_ x n) + ∑ n : Fin 64, f (at_ (1 - x) n) := by
  have h : ∑ q : Fin 128, f q = ∑ n : Fin 64, f (at_ 0 n) + ∑ n : Fin 64, f (at_ 1 n) := by
    rw [Fin.sum_univ_add (a := 64) (b := 64) f]
    congr 1 <;> refine Finset.sum_congr rfl fun n _ => congrArg f (Fin.ext ?_) <;> simp [at_]
  fin_cases x
  · exact h
  · rw [add_comm]; exact h

/-- The score of a row of a device's pool: the true one where some live entry names its page, a
fixed real elsewhere. -/
noncomputable def seen (L : ℝ) (x : Fin 2) (k : Fin 1024) : EReal :=
  if 0 < a.count (at_ x (hi k)) then (a.score (at_ x (hi k)) (lo k) : EReal) else (L : EReal)

theorem seen_ne_top (L : ℝ) (x : Fin 2) (k : Fin 1024) : a.seen L x k ≠ ⊤ := by
  unfold seen; split <;> exact EReal.coe_ne_top _

theorem seen_top (L : ℝ) (x : Fin 2) :
    ∃ t : ℝ, Finset.univ.fold max (⊥ : EReal) (a.seen L x) = (t : EReal) :=
  fold_max_real _ (a.seen_ne_top L x) 0 (by unfold seen; split <;> exact EReal.coe_ne_bot _)

theorem seen_weight (L t : ℝ) (x : Fin 2) (k : Fin 1024) :
    Ideal.exp (a.seen L x k - (t : EReal)) * ((a.count (at_ x (hi k)) : ℝ) : EReal)
      = (a.e t (at_ x (hi k)) (lo k) : EReal) := by
  unfold seen e
  by_cases h : 0 < a.count (at_ x (hi k))
  · rw [if_pos h, ← EReal.coe_sub, Ideal.exp_coe, ← EReal.coe_mul, mul_comm]
  · have h0 : a.count (at_ x (hi k)) = 0 := le_antisymm (not_lt.1 h) (a.count_nonneg _)
    rw [h0]; simp

/-- The largest score of a half. -/
noncomputable def top (L : ℝ) (x : Fin 2) : EReal := Finset.univ.fold max (⊥ : EReal) (a.seen L x)

/-- The weight of a row of a half, relative to that half's largest score. -/
noncomputable def weight (L : ℝ) (x : Fin 2) (k : Fin 1024) : EReal :=
  Ideal.exp (a.seen L x k - a.top L x) * ((a.count (at_ x (hi k)) : ℝ) : EReal)

/-- The sum of a half's weights. -/
noncomputable def den (L : ℝ) (x : Fin 2) : EReal := ∑ k : Fin 1024, a.weight L x k

/-- A half's weighted sum of a column of values. -/
noncomputable def num (L : ℝ) (x : Fin 2) (u : Fin 128 → Fin 16 → EReal) : EReal :=
  ∑ k : Fin 1024, a.weight L x k * u (at_ x (hi k)) (lo k)

theorem num_scaled (L t s : ℝ) (x : Fin 2) (u : Fin 128 → Fin 16 → EReal)
    (ht : a.top L x = (t : EReal)) :
    a.num L x u * ((Real.exp (t - s) : ℝ) : EReal)
      = ∑ n : Fin 64, ∑ i : Fin 16, (a.e s (at_ x n) i : EReal) * u (at_ x n) i := by
  unfold num weight
  rw [ht]
  simp only [seen_weight]
  rw [sum_mul_real _ _ _ (Real.exp_pos _).le,
    ← sum_rows (fun n i => (a.e s (at_ x n) i : EReal) * u (at_ x n) i)]
  refine Finset.sum_congr rfl fun k _ => ?_
  rw [mul_right_comm, ← EReal.coe_mul, e_move]

theorem den_scaled (L t s : ℝ) (x : Fin 2) (ht : a.top L x = (t : EReal)) :
    a.den L x * ((Real.exp (t - s) : ℝ) : EReal)
      = ∑ n : Fin 64, ∑ i : Fin 16, (a.e s (at_ x n) i : EReal) := by
  have h := a.num_scaled L t s x (fun _ _ => 1) ht
  simpa only [num, den, mul_one] using h

/-- The two halves merged under their common largest score are the attention of the row. -/
theorem merge (L : ℝ) (x : Fin 2) (u : Fin 128 → Fin 16 → EReal) :
    Ideal.div
        (a.num L x u * Ideal.exp (a.top L x - max (a.top L x) (a.top L (1 - x)))
          + a.num L (1 - x) u * Ideal.exp (a.top L (1 - x) - max (a.top L x) (a.top L (1 - x))))
        (a.den L x * Ideal.exp (a.top L x - max (a.top L x) (a.top L (1 - x)))
          + a.den L (1 - x) * Ideal.exp (a.top L (1 - x) - max (a.top L x) (a.top L (1 - x))))
      = a.answer u := by
  obtain ⟨t, ht⟩ := a.seen_top L x
  obtain ⟨t', ht'⟩ := a.seen_top L (1 - x)
  have hm : max (a.top L x) (a.top L (1 - x)) = ((max t t' : ℝ) : EReal) := by
    unfold top; rw [ht, ht']; exact (EReal.coe_strictMono.monotone.map_max).symm
  have hE : Ideal.exp (a.top L x - ((max t t' : ℝ) : EReal))
      = ((Real.exp (t - max t t') : ℝ) : EReal) := by
    unfold top; rw [ht, ← EReal.coe_sub, Ideal.exp_coe]
  have hE' : Ideal.exp (a.top L (1 - x) - ((max t t' : ℝ) : EReal))
      = ((Real.exp (t' - max t t') : ℝ) : EReal) := by
    unfold top; rw [ht', ← EReal.coe_sub, Ideal.exp_coe]
  rw [hm, hE, hE', a.num_scaled L t _ x u ht, a.num_scaled L t' _ (1 - x) u ht',
    a.den_scaled L t _ x ht, a.den_scaled L t' _ (1 - x) ht']
  generalize max t t' = s
  rw [← sum_halves (fun q => ∑ i : Fin 16, (a.e s q i : EReal) * u q i) x,
    ← sum_halves (fun q => ∑ i : Fin 16, (a.e s q i : EReal)) x, a.sum_pages s u]
  have hZ : ∑ q : Fin 128, ∑ i : Fin 16, (a.e s q i : EReal) = ((a.Z s : ℝ) : EReal) := by
    rw [← a.sum_pages_real s]; simp only [coe_sum]
  rw [hZ, Ideal.div_coe (a.Z_pos s).ne', sum_mul_real _ _ _ (one_div_pos.2 (a.Z_pos s)).le]
  unfold answer
  refine Finset.sum_congr rfl fun j _ => ?_
  rw [sum_mul_real _ _ _ (one_div_pos.2 (a.Z_pos s)).le]
  refine Finset.sum_congr rfl fun i _ => ?_
  rw [mul_right_comm, ← EReal.coe_mul, mul_one_div, a.ratio s 0]

end Ask

end Cert.Paged
-- ==== Proof.Request.lean ====
module

public import proofs.«01_k».proof.Proof.Softmax

/-!
# What a request asks

The arguments of both programs as one request: query rows, two pools of 128 pages, a table of 64
entries for each of eight rows of the batch, and how many entries of each row are live. A query row
of a proper request asks one softmax (`Cert.Paged.Ask`) over the live entries.
-/

@[expose] public section

open Idealize.ShloMosaic
open scoped BigOperators

namespace Cert.Paged

/-- The factor one eighth, as the programs spell it. -/
noncomputable def eighth : EReal := Ideal.ofBits .f32 0x3E000000#32

theorem eighth_real : ∃ r : ℝ, eighth = (r : EReal) := by
  unfold eighth
  simp [Ideal.ofBits, Ideal.ieee]
  exact ⟨8388608 * (2 ^ 26)⁻¹, (EReal.coe_mul _ _).symm⟩

/-- The score a device gives a row no live entry names, as the kernel spells it. -/
noncomputable def low : EReal := Ideal.ofBits .f32 0xF149F2CA#32

theorem low_real : ∃ r : ℝ, low = (r : EReal) := by
  unfold low
  simp [Ideal.ofBits, Ideal.ieee]
  exact ⟨-(13234890 * 2 ^ 76), by rw [EReal.coe_neg, EReal.coe_mul, EReal.coe_pow]⟩

/-- The arguments, the pools whole. -/
structure Request where
  Q : (⟨4, ![8, 1, 8, 64]⟩ : Shape).Idx → EReal
  K : (⟨4, ![128, 16, 8, 64]⟩ : Shape).Idx → EReal
  V : (⟨4, ![128, 16, 8, 64]⟩ : Shape).Idx → EReal
  table : (⟨2, ![8, 64]⟩ : Shape).Idx → BitVec 32
  lens : (⟨1, ![8]⟩ : Shape).Idx → BitVec 32

namespace Request

variable (R : Request)

/-- Entry `j` of row `b` is live. -/
def live (b : Fin 8) (j : Fin 64) : Prop := (j.val : ℤ) < (R.lens (ix1 b)).toInt

instance (b : Fin 8) : DecidablePred (R.live b) := fun _ => Int.decLt _ _

/-- A request both programs answer alike: the queries and keys are real numbers, every row has a
live entry, and every live entry names one of the 128 pages. The values may be infinite. -/
structure Proper : Prop where
  query : ∀ i, ∃ r : ℝ, R.Q i = (r : EReal)
  key : ∀ i, ∃ r : ℝ, R.K i = (r : EReal)
  some_live : ∀ b, 0 < (R.lens (ix1 b)).toInt
  named : ∀ b j, R.live b j → (R.table (ix2 b j)).toNat < 128

/-- The page an entry names; any page where it names none. -/
def page (b : Fin 8) (j : Fin 64) : Fin 128 :=
  ⟨(R.table (ix2 b j)).toNat % 128, Nat.mod_lt _ (by decide)⟩

/-- The score of head `h` of row `b` against row `i` of page `p`. -/
noncomputable def score (b h : Fin 8) (p : Fin 128) (i : Fin 16) : ℝ :=
  ((∑ d : Fin 64, R.Q (ix4 b 0 h d) * R.K (ix4 p i h d)) * eighth).toReal

variable {R}

theorem Proper.score_eq (hR : R.Proper) (b h : Fin 8) (p : Fin 128) (i : Fin 16) :
    (∑ d : Fin 64, R.Q (ix4 b 0 h d) * R.K (ix4 p i h d)) * eighth = (R.score b h p i : EReal) := by
  obtain ⟨e, he⟩ := eighth_real
  choose q hq using hR.query
  choose k hk using hR.key
  unfold score
  rw [he]
  simp only [hq, hk, ← EReal.coe_mul, ← coe_sum, EReal.toReal_coe]

/-- What head `h` of row `b` asks. -/
noncomputable def Proper.ask (hR : R.Proper) (b h : Fin 8) : Ask where
  live := R.live b
  dec := inferInstance
  page := R.page b
  score := R.score b h
  first := hR.some_live b

variable (R)

/-- The values head `h`'s output column `d` weighs. -/
def col (h : Fin 8) (d : Fin 64) (p : Fin 128) (i : Fin 16) : EReal := R.V (ix4 p i h d)

end Request

end Cert.Paged
-- ==== Proof.KernelWords.lean ====
module

public import proofs.«01_k».proof.Proof.Request
public import proofs.«01_k».proof.Proof.Swap
public import Idealize.ShloMosaic.Lib.WordCmp
public import Idealize.ShloMosaic.Lib.MatmulPlain

/-!
# The kernel's counters and masks

What the kernel computes with machine words: how often a row's live entries name each page a
device keeps, those counts spread over rows of the pool, and the mask that keeps a row's own head.
-/

@[expose] public section

open Cert.KernelIdeal Cert.KernelIdeal.Gen
open Idealize.ShloMosaic
open scoped BigOperators
namespace Cert.Paged
attribute [local instance] Cert.KernelIdeal.Gen.facts

/-- Which half of the pools a device keeps. -/
def half (c : Dev nD) : Fin 2 := ⟨c.val / 16, Nat.div_lt_of_lt_mul c.isLt⟩

theorem half_mate (c : Dev nD) : half (Cert.KernelIdeal.Swap.mate c) = 1 - half c := by
  revert c; decide

theorem first_page_word (c : Dev nD) :
    Scalar.muli (Scalar.remsi (Scalar.divsi c.word 16#32) 2#32) 64#32
      = BitVec.ofNat 32 (64 * (half c).val) := by
  revert c; decide +kernel

theorem page_word (c : Dev nD) (n : Fin 64) :
    IntOp.addi (BitVec.ofNat 32 n.val)
        (Scalar.muli (Scalar.remsi (Scalar.divsi c.word 16#32) 2#32) 64#32)
      = BitVec.ofNat 32 (Ask.at_ (half c) n).val := by
  rw [first_page_word, WordCmp.addi_ofNat]
  exact congrArg _ (Nat.add_comm _ _)

/-- An entry counts for a page exactly when it is live and names it. -/
theorem entry_word {R : Request} (hR : R.Proper) (b : Fin 8) (j : Fin 64) (q : Fin 128) :
    IntOp.cmpi .eq (Scalar.select (IntOp.cmpi .slt (BitVec.ofNat 32 j.val) (R.lens (ix1 b)))
        (R.table (ix2 b j)) 4294967295#32) (BitVec.ofNat 32 q.val)
      = BitVec.ofBool (decide (R.live b j ∧ R.page b j = q)) := by
  have hj : (BitVec.ofNat 32 j.val).toInt = (j.val : ℤ) :=
    WordCmp.toInt_ofNat_of_lt (by have := j.isLt; omega)
  have hq : (BitVec.ofNat 32 q.val).toNat = q.val :=
    WordCmp.toNat_ofNat_of_lt (by have := q.isLt; omega)
  rw [WordCmp.cmpi_slt_eq, hj, WordCmp.select_ofBool, WordCmp.cmpi_eq_eq]
  refine congrArg BitVec.ofBool (decide_eq_decide.2 ?_)
  by_cases h : R.live b j
  · rw [if_pos (show decide ((j.val : ℤ) < (R.lens (ix1 b)).toInt) = true from decide_eq_true h)]
    have hn := hR.named b j h
    constructor
    · intro e
      refine ⟨h, Fin.ext ?_⟩
      show (R.table (ix2 b j)).toNat % 128 = q.val
      rw [Nat.mod_eq_of_lt hn, e, hq]
    · rintro ⟨_, e⟩
      have e' : (R.table (ix2 b j)).toNat % 128 = q.val := congrArg Fin.val e
      rw [Nat.mod_eq_of_lt hn] at e'
      exact BitVec.eq_of_toNat_eq (e'.trans hq.symm)
  · rw [if_neg (show ¬ decide ((j.val : ℤ) < (R.lens (ix1 b)).toInt) = true from
      fun e => h (of_decide_eq_true e))]
    constructor
    · intro e
      have e' := congrArg BitVec.toNat e
      rw [hq] at e'
      have := q.isLt
      simp at e'
      omega
    · rintro ⟨h', _⟩; exact absurd h' h

/-- The kernel counts, for each page a device keeps, the live entries naming it. -/
theorem counts {R : Request} (hR : R.Proper) (c : Dev nD) (l : Vec Ideal S8x1 .i32)
    (t : Vec Ideal S8x64 .i32) (hl : ∀ b, l (ix2 b 0) = R.lens (ix1 b))
    (ht : ∀ b j, t (ix2 b j) = R.table (ix2 b j)) (b h : Fin 8) (n : Fin 64) :
    k0_pay2 (F := Ideal) c l t (ix2 b n)
      = (((hR.ask b h).count (Ask.at_ (half c) n) : ℝ) : EReal) := by
  pointwise [k0_pay2]
  unfold Ask.count
  rw [coe_sum]
  refine Finset.sum_congr rfl fun j _ => ?_
  rw [page_word, hl, ht, entry_word hR, WordCmp.select_decide]
  show (if R.live b j ∧ R.page b j = Ask.at_ (half c) n then (1 : EReal) else 0) = _
  by_cases hh : R.live b j ∧ R.page b j = Ask.at_ (half c) n
  · rw [if_pos hh]
    have e : (if (hR.ask b h).live j ∧ (hR.ask b h).page j = Ask.at_ (half c) n then (1 : ℝ) else 0)
        = 1 := if_pos hh
    rw [e, EReal.coe_one]
  · rw [if_neg hh]
    have e : (if (hR.ask b h).live j ∧ (hR.ask b h).page j = Ask.at_ (half c) n then (1 : ℝ) else 0)
        = 0 := if_neg hh
    rw [e, EReal.coe_zero]

/-- The row of the pool a counter names lies on the page `k / 16`. -/
theorem row_word : ∀ k : Fin 1024,
    Scalar.select
      (IntOp.andi
        (IntOp.cmpi .ne (IntOp.subi (BitVec.setWidth 32 (IntOp.cmpi .sgt (BitVec.ofNat 32 k.val) 0#32))
            (BitVec.setWidth 32 (IntOp.cmpi .slt (BitVec.ofNat 32 k.val) 0#32)))
          (Scalar.subi (Scalar.extui (Scalar.cmpi .sgt 16#32 0#32))
            (Scalar.extui (Scalar.cmpi .slt 16#32 0#32))))
        (IntOp.cmpi .ne (IntOp.remsi ArithUnit.vector (BitVec.ofNat 32 k.val) 16#32) 0#32))
      (IntOp.subi (IntOp.divsi ArithUnit.vector (BitVec.ofNat 32 k.val) 16#32) 1#32)
      (IntOp.divsi ArithUnit.vector (BitVec.ofNat 32 k.val) 16#32)
      = BitVec.ofNat 32 (k.val / 16) := by
  decide +kernel

/-- The counts spread over the rows of the pool. -/
theorem spread (v29 : FVec Ideal S8x64 .f32) (r : Fin 64) (k : Fin 1024) :
    k0_pay6 (F := Ideal) v29 (iota .tc S64x1024 32 [0] iota_S64x1024_d0_w32)
        (iota .tc S64x1024 32 [1] iota_S64x1024_d1_w32) 16#32 k0_pay3 k0_pay4 k0_pay5 (ix2 r k)
      = v29 (ix2 ⟨r.val / 8, by omega⟩ (hi k)) := by
  pointwise [k0_pay6, k0_pay3, k0_pay4, k0_pay5]
  rw [row_word]
  refine (Finset.sum_eq_single (hi k) (fun x _ hx => ?_) (fun h => absurd (Finset.mem_univ _) h)).trans ?_
  · rw [WordCmp.cmpi_eq_ofNat (by omega) (by omega), WordCmp.select_ofBool, if_neg]
    intro e
    exact hx (Fin.ext (of_decide_eq_true e).symm)
  · rw [WordCmp.cmpi_eq_ofNat (by omega) (by omega), WordCmp.select_ofBool, if_pos]
    exact decide_eq_true rfl

/-- The head a row of the queries belongs to. -/
theorem head_word : ∀ r : Fin 64,
    Scalar.select
        (IntOp.andi
          (IntOp.xori
            (IntOp.cmpi .slt
              (IntOp.remsi ArithUnit.vector (BitVec.ofNat 32 r.val)
                (Scalar.select (Scalar.cmpi .eq 8#32 0#32) 1#32 8#32))
              0#32)
            (Scalar.cmpi .slt (Scalar.select (Scalar.cmpi .eq 8#32 0#32) 1#32 8#32) 0#32))
          (IntOp.cmpi .ne
            (IntOp.remsi ArithUnit.vector (BitVec.ofNat 32 r.val)
              (Scalar.select (Scalar.cmpi .eq 8#32 0#32) 1#32 8#32))
            0#32))
        (IntOp.addi
          (IntOp.remsi ArithUnit.vector (BitVec.ofNat 32 r.val)
            (Scalar.select (Scalar.cmpi .eq 8#32 0#32) 1#32 8#32))
          (Scalar.select (Scalar.cmpi .eq 8#32 0#32) 1#32 8#32))
        (IntOp.remsi ArithUnit.vector (BitVec.ofNat 32 r.val)
          (Scalar.select (Scalar.cmpi .eq 8#32 0#32) 1#32 8#32))
      = BitVec.ofNat 32 (r.val % 8) := by
  decide +kernel

/-- The head a column of the pool belongs to. -/
theorem column_word : ∀ k : Fin 512,
    Scalar.select
        (IntOp.andi
          (IntOp.cmpi .ne
            (IntOp.subi (BitVec.setWidth 32 (IntOp.cmpi .sgt (BitVec.ofNat 32 k.val) 0#32))
              (BitVec.setWidth 32 (IntOp.cmpi .slt (BitVec.ofNat 32 k.val) 0#32)))
            (Scalar.subi (Scalar.extui (Scalar.cmpi .sgt 64#32 0#32))
              (Scalar.extui (Scalar.cmpi .slt 64#32 0#32))))
          (IntOp.cmpi .ne (IntOp.remsi ArithUnit.vector (BitVec.ofNat 32 k.val) 64#32) 0#32))
        (IntOp.subi (IntOp.divsi ArithUnit.vector (BitVec.ofNat 32 k.val) 64#32) 1#32)
        (IntOp.divsi ArithUnit.vector (BitVec.ofNat 32 k.val) 64#32)
      = BitVec.ofNat 32 (k.val / 64) := by
  decide +kernel

/-- The mask keeps the columns of a row's own head. -/
theorem diag_apply (r : Fin 64) (k : Fin 512) :
    k0_pay9 k0_pay8 Cert.KernelIdeal.Swap.cols (ix2 r k)
      = BitVec.ofBool (decide (r.val % 8 = k.val / 64)) := by
  pointwise [k0_pay9, k0_pay8, Cert.KernelIdeal.Swap.cols]
  rw [head_word, column_word, WordCmp.cmpi_eq_ofNat (by omega) (by omega)]

end Cert.Paged
-- ==== Proof.KernelValue.lean ====
module

public import proofs.«01_k».proof.Proof.KernelWords

/-!
# What a device computes of a request

A device that keeps one half of the pools computes, for every head of every row, that half's
largest score, its sum of weights and its weighted sum of the values; merged with its partner's they
are the answer the request asks for.
-/

@[expose] public section

open Cert.KernelIdeal Cert.KernelIdeal.Gen
open Idealize.ShloMosaic
open scoped BigOperators
namespace Cert.Paged
attribute [local instance] Cert.KernelIdeal.Gen.facts

/-- The row of the kernel's matrices that holds head `h` of row `b`. -/
def row (b h : Fin 8) : Fin 64 := ⟨b.val * 8 + h.val, by omega⟩

/-- The column of the pool that holds feature `d` of head `h`. -/
def feat (h : Fin 8) (d : Fin 64) : Fin 512 := ⟨64 * h.val + d.val, by omega⟩

/-- A sum over all columns that keeps one head's is a sum over that head's features. -/
theorem sum_head (g : Fin 512 → EReal) (h : Fin 8) :
    ∑ x : Fin 512, (if h.val = x.val / 64 then g x else 0) = ∑ d : Fin 64, g (feat h d) := by
  symm
  refine Finset.sum_of_injOn (feat h) ?_ (fun _ _ => Finset.mem_coe.2 (Finset.mem_univ _)) ?_ ?_
  · intro a _ b _ e
    have := congrArg Fin.val e
    simp only [feat] at this
    exact Fin.ext (by omega)
  · intro x _ hx
    refine if_neg fun e => hx ⟨⟨x.val % 64, by omega⟩, by simp, Fin.ext ?_⟩
    simp only [feat]
    omega
  · intro d _
    have e : h.val = (feat h d).val / 64 := by simp only [feat]; omega
    exact (if_pos e).symm

/-- What a device holds of a request: all queries, its half of both pools, the table, the counts. -/
structure Holds (R : Request) (x : Fin 2) (q : Vec Ideal S64x64 .f32)
    (kk vv : Vec Ideal S1024x512 .f32) (t : Vec Ideal S8x64 .i32) (l : Vec Ideal S8x1 .i32) : Prop where
  query : ∀ b h d, q (ix2 (row b h) d) = R.Q (ix4 b 0 h d)
  key : ∀ k h d, kk (ix2 k (feat h d)) = R.K (ix4 (Ask.at_ x (hi k)) (lo k) h d)
  value : ∀ k h d, vv (ix2 k (feat h d)) = R.V (ix4 (Ask.at_ x (hi k)) (lo k) h d)
  table : ∀ b j, t (ix2 b j) = R.table (ix2 b j)
  lens : ∀ b, l (ix2 b 0) = R.lens (ix1 b)

section Device

variable {R : Request} (hR : R.Proper) (c : Dev nD) {q : Vec Ideal S64x64 .f32}
  {kk vv : Vec Ideal S1024x512 .f32} {t : Vec Ideal S8x64 .i32} {l : Vec Ideal S8x1 .i32}
  (H : Holds R (half c) q kk vv t l) {L : ℝ} (hL : low = (L : EReal)) (b h : Fin 8)

/-- The counts, spread over rows and heads. -/
noncomputable def spreadCounts (c : Dev nD) (l : Vec Ideal S8x1 .i32) (t : Vec Ideal S8x64 .i32) :
    FVec Ideal S64x1024 .f32 :=
  k0_pay6 (k0_pay2 c l t) (iota .tc S64x1024 32 [0] iota_S64x1024_d0_w32)
    (iota .tc S64x1024 32 [1] iota_S64x1024_d1_w32) 16#32 k0_pay3 k0_pay4 k0_pay5

include H in
theorem counts_at (k : Fin 1024) :
    spreadCounts c l t (ix2 (row b h) k)
      = (((hR.ask b h).count (Ask.at_ (half c) (hi k)) : ℝ) : EReal) := by
  unfold spreadCounts
  rw [spread]
  have e : (⟨(row b h).val / 8, by omega⟩ : Fin 8) = b := Fin.ext (by simp only [row]; omega)
  rw [e]
  exact counts hR c l t H.lens H.table b h (hi k)

include H hL in
/-- The masked score. -/
theorem score_at (k : Fin 1024) :
    k0_pay10 (F := Ideal) (spreadCounts c l t) (k0_pay7 q) k0_pay8 Cert.KernelIdeal.Swap.cols kk
        (ix2 (row b h) k) = (hR.ask b h).seen L (half c) k := by
  have hc := counts_at hR c H b h k
  generalize spreadCounts c l t = v64 at hc
  have hq : (k0_pay7 (F := Ideal) q : FVec Ideal S64x64 .f32) = q := by
    funext i
    idx_vars i
    pointwise [k0_pay7]
  rw [hq]
  pointwise [k0_pay10]
  rw [hc]
  unfold Ask.seen
  have e0 : (0 < (((hR.ask b h).count (Ask.at_ (half c) (hi k)) : ℝ) : EReal))
      ↔ 0 < (hR.ask b h).count (Ask.at_ (half c) (hi k)) := EReal.coe_pos
  by_cases hp : 0 < (hR.ask b h).count (Ask.at_ (half c) (hi k))
  · rw [if_pos (e0.2 hp), if_pos hp]
    refine Eq.trans ?_ (hR.score_eq b h (Ask.at_ (half c) (hi k)) (lo k))
    refine congrArg (· * eighth) ?_
    refine Eq.trans (Finset.sum_congr rfl fun x _ => ?_)
      ((sum_head (fun x => q (ix2 (row b h) ⟨x.val % 64, by omega⟩) * kk (ix2 k x)) h).trans ?_)
    · rw [diag_apply, WordCmp.select_ofBool]
      have er : (row b h).val % 8 = h.val := by simp only [row]; omega
      rw [er]
      by_cases hx : h.val = x.val / 64
      · rw [if_pos (decide_eq_true hx), if_pos hx]
        refine congrArg (· * kk (ix2 k x)) ?_
        split_ifs <;> exact congrArg (fun z => q (ix2 (row b h) z)) (Fin.ext (by simp only; omega))
      · rw [if_neg (by simpa using hx), if_neg hx]
    · refine Finset.sum_congr rfl fun d _ => ?_
      rw [← H.query, ← H.key]
      refine congrArg (· * kk (ix2 k (feat h d))) ?_
      exact congrArg (fun z => q (ix2 (row b h) z)) (Fin.ext (by simp only [feat]; omega))
  · rw [if_neg (fun e => hp (e0.1 e)), if_neg hp]
    exact hL

include H hL in
/-- The largest score. -/
theorem top_at :
    k0_pay11 (F := Ideal) (spreadCounts c l t) (k0_pay7 q) k0_pay8 Cert.KernelIdeal.Swap.cols kk
        (ix2 (row b h) 0) = (hR.ask b h).top L (half c) := by
  have hs := score_at hR c H hL b h
  pointwise [k0_pay11]
  simp only [hs]
  have e : Ideal.ofBits .f32 4286578688#32 = ⊥ := by simp [Ideal.ofBits, Ideal.ieee]
  rw [e]
  rfl

include H hL in
/-- The weights. -/
theorem weight_at (k : Fin 1024) :
    k0_pay12 (F := Ideal) (spreadCounts c l t) (k0_pay7 q) k0_pay8 Cert.KernelIdeal.Swap.cols kk
        (ix2 (row b h) k) = (hR.ask b h).weight L (half c) k := by
  have hs := score_at hR c H hL b h k
  have ht := top_at hR c H hL b h
  have hc := counts_at hR c H b h k
  pointwise [k0_pay12]
  rw [hs, ht, hc]
  rfl

include H hL in
/-- The sum of the weights. -/
theorem den_at :
    k0_pay13 (F := Ideal) (spreadCounts c l t) (k0_pay7 q) k0_pay8 Cert.KernelIdeal.Swap.cols kk
        (ix1 (row b h)) = (hR.ask b h).den L (half c) := by
  have hw := weight_at hR c H hL b h
  pointwise [k0_pay13]
  exact Finset.sum_congr rfl fun k _ => hw k

/-- Of a sum of eight terms of which all but one vanish, that one is left. -/
theorem only_one (f : Fin 8 → EReal) (h : Fin 8) (hf : ∀ i, i ≠ h → f i = 0) :
    f 0 + f 1 + f 2 + f 3 + f 4 + f 5 + f 6 + f 7 = f h := by
  have e : ∑ i, f i = f 0 + f 1 + f 2 + f 3 + f 4 + f 5 + f 6 + f 7 := Fin.sum_univ_eight f
  rw [← e]
  exact Finset.sum_eq_single h (fun i _ hi => hf i hi) (fun e => absurd (Finset.mem_univ _) e)

include H hL in
/-- The weighted sum of the values. -/
theorem num_at (d : Fin 64) :
    k0_pay15 (F := Ideal) Cert.KernelIdeal.Swap.diag
        (k0_pay12 (spreadCounts c l t) (k0_pay7 q) k0_pay8 Cert.KernelIdeal.Swap.cols kk) vv
        (ix2 (row b h) d) = (hR.ask b h).num L (half c) (R.col h d) := by
  have hw := weight_at hR c H hL b h
  generalize k0_pay12 (F := Ideal) (spreadCounts c l t) (k0_pay7 q) k0_pay8
    Cert.KernelIdeal.Swap.cols kk = w at hw
  have hd : ∀ k, Cert.KernelIdeal.Swap.diag (ix2 (row b h) k)
      = BitVec.ofBool (decide (h.val = k.val / 64)) := by
    intro k
    have er : (row b h).val % 8 = h.val := by simp only [row]; omega
    exact (diag_apply (row b h) k).trans (by rw [er])
  generalize Cert.KernelIdeal.Swap.diag = g at hd
  pointwise [k0_pay15]
  have e0 : (⟨d.val, by omega⟩ : Fin 512) = feat 0 d := Fin.ext (by simp only [feat]; omega)
  have e1 : (⟨64 + d.val, by omega⟩ : Fin 512) = feat 1 d := rfl
  have e2 : (⟨128 + d.val, by omega⟩ : Fin 512) = feat 2 d := rfl
  have e3 : (⟨192 + d.val, by omega⟩ : Fin 512) = feat 3 d := rfl
  have e4 : (⟨256 + d.val, by omega⟩ : Fin 512) = feat 4 d := rfl
  have e5 : (⟨320 + d.val, by omega⟩ : Fin 512) = feat 5 d := rfl
  have e6 : (⟨384 + d.val, by omega⟩ : Fin 512) = feat 6 d := rfl
  have e7 : (⟨448 + d.val, by omega⟩ : Fin 512) = feat 7 d := rfl
  rw [e0, e1, e2, e3, e4, e5, e6, e7]
  have block (i : Fin 8) : (feat i d).val / 64 = i.val := by simp only [feat]; omega
  refine (only_one (fun i => Scalar.select (g (ix2 (row b h) (feat i d)))
    (∑ x, w (ix2 (row b h) x) * vv (ix2 x (feat i d))) 0) h (fun i hi => ?_)).trans ?_
  · show Scalar.select (g (ix2 (row b h) (feat i d))) _ _ = _
    rw [hd, block, WordCmp.select_ofBool, if_neg]
    exact fun e => hi (Fin.ext (of_decide_eq_true e).symm)
  · show Scalar.select (g (ix2 (row b h) (feat h d))) _ _ = _
    rw [hd, block, WordCmp.select_ofBool, if_pos (decide_eq_true rfl)]
    exact Finset.sum_congr rfl fun k _ => congrArg₂ (· * ·) (hw k) (H.value k h d)

end Device

/-- A device's share merged with its partner's is the answer. -/
theorem merged_at (m : (ℓ : Loc nD τ sig) → Buf (Elt Ideal) ℓ) {R : Request} (hR : R.Proper)
    (H : ∀ c, Holds R (half c) (Cert.KernelIdeal.Swap.inQ m c) (Cert.KernelIdeal.Swap.inK m c)
      (Cert.KernelIdeal.Swap.inV m c) (Cert.KernelIdeal.Swap.inT m c) (Cert.KernelIdeal.Swap.inL m c))
    (c : Dev nD) (b h : Fin 8) (d : Fin 64) :
    Cert.KernelIdeal.Swap.merged m c (ix4 b 0 h d) = (hR.ask b h).answer (R.col h d) := by
  obtain ⟨L, hL⟩ := low_real
  have ht (c) : Cert.KernelIdeal.Swap.top m c (ix2 (row b h) 0) = (hR.ask b h).top L (half c) :=
    top_at hR c (H c) hL b h
  have hn (c) : Cert.KernelIdeal.Swap.num m c (ix2 (row b h) d)
      = (hR.ask b h).num L (half c) (R.col h d) := num_at hR c (H c) hL b h d
  have hd (c) : Cert.KernelIdeal.Swap.den m c (ix1 (row b h)) = (hR.ask b h).den L (half c) :=
    den_at hR c (H c) hL b h
  have hn' (c) : Cert.KernelIdeal.Swap.sentNum m c (ix2 (row b h) d)
      = (hR.ask b h).num L (half c) (R.col h d) := by
    refine Eq.trans ?_ (hn c)
    unfold Cert.KernelIdeal.Swap.sentNum Cert.KernelIdeal.Swap.num
    pointwise [k0_pay16]
  have ht' (c) : Cert.KernelIdeal.Swap.sentTop m c (ix2 (row b h) 0)
      = (hR.ask b h).top L (half c) := by
    refine Eq.trans ?_ (ht c)
    unfold Cert.KernelIdeal.Swap.sentTop
    pointwise [k0_pay17]
  have hd' (c) : Cert.KernelIdeal.Swap.sentDen m c (ix2 (row b h) 0)
      = (hR.ask b h).den L (half c) := by
    refine Eq.trans ?_ (hd c)
    unfold Cert.KernelIdeal.Swap.sentDen
    pointwise [k0_pay18, k0_pay14]
  have hd'' : k0_pay14 (F := Ideal) (Cert.KernelIdeal.Swap.den m c) (ix2 (row b h) 0)
      = (hR.ask b h).den L (half c) := by
    refine Eq.trans ?_ (hd c)
    pointwise [k0_pay14]
  refine Eq.trans ?_ ((hR.ask b h).merge L (half c) (R.col h d))
  rw [← half_mate, ← hn c, ← ht c, ← hd'', ← hn' (Cert.KernelIdeal.Swap.mate c),
    ← ht' (Cert.KernelIdeal.Swap.mate c), ← hd' (Cert.KernelIdeal.Swap.mate c)]
  unfold Cert.KernelIdeal.Swap.merged
  generalize Cert.KernelIdeal.Swap.top m c = v1
  generalize k0_pay14 (Cert.KernelIdeal.Swap.den m c) = v2
  generalize Cert.KernelIdeal.Swap.num m c = v3
  generalize Cert.KernelIdeal.Swap.sentNum m (Cert.KernelIdeal.Swap.mate c) = v4
  generalize Cert.KernelIdeal.Swap.sentTop m (Cert.KernelIdeal.Swap.mate c) = v5
  generalize Cert.KernelIdeal.Swap.sentDen m (Cert.KernelIdeal.Swap.mate c) = v6
  pointwise [k0_pay1]
  rfl

end Cert.Paged
-- ==== Proof.KernelRead.lean ====
module

public import proofs.«01_k».proof.Proof.KernelValue
public import Idealize.ShloMosaic.Lib.Pipeline.ValueKit
public import Idealize.ShloMosaic.Lib.Claim
public import Idealize.ShloMosaic.Lib.LayoutAt

/-!
# What each device is given of a request

The five operands a device stages, read off the arguments at launch: queries, table and counts whole,
and of both pools the half the device's place in the mesh assigns it.
-/

@[expose] public section

open Cert.KernelIdeal Cert.KernelIdeal.Gen
open Idealize.ShloMosaic Idealize.ShloMosaic.TcCoe Idealize.SL.Sem
open scoped BigOperators
namespace Cert.Paged
attribute [local instance] Cert.KernelIdeal.Gen.facts

variable (m : (ℓ : Loc nD τ sig) → Buf (Elt Ideal) ℓ)

/-- Every operand is staged whole. -/
theorem idx : ∀ t : Fin cfg0.N, win0_0.index t = ![0, 0] ∧ win0_1.index t = ![0, 0]
    ∧ win0_2.index t = ![0, 0] ∧ win0_3.index t = ![0, 0] ∧ win0_4.index t = ![0, 0] :=
  (by decide +kernel : ∀ t : Fin grid0.N, _)

theorem inT_eq (c : Dev nD) (b : Fin 8) (j : Fin 64) :
    Cert.KernelIdeal.Swap.inT m c (ix2 b j) = m ((c : Thread nD τ).loc main_arg3) (ix2 b j) := by
  unfold Cert.KernelIdeal.Swap.inT
  blk_ext! [iblk, V, idx t0_0]

theorem inL_eq (c : Dev nD) (b : Fin 8) :
    Cert.KernelIdeal.Swap.inL m c (ix2 b 0) = m ((c : Thread nD τ).loc main_arg4) (ix1 b) := by
  unfold Cert.KernelIdeal.Swap.inL
  blk_ext! [iblk, V, idx t0_0]

theorem inQ_eq (c : Dev nD) (b h : Fin 8) (d : Fin 64) :
    Cert.KernelIdeal.Swap.inQ m c (ix2 (row b h) d)
      = m ((c : Thread nD τ).loc main_arg0) (ix4 b 0 h d) := by
  unfold Cert.KernelIdeal.Swap.inQ row
  blk_ext! [iblk, V, idx t0_0]

theorem inK_eq (c : Dev nD) (k : Fin 1024) (h : Fin 8) (d : Fin 64) :
    Cert.KernelIdeal.Swap.inK m c (ix2 k (feat h d))
      = m ((c : Thread nD τ).loc main_arg1) (ix4 (hi k) (lo k) h d) := by
  unfold Cert.KernelIdeal.Swap.inK feat hi lo
  blk_ext! [iblk, V, idx t0_0]

theorem inV_eq (c : Dev nD) (k : Fin 1024) (h : Fin 8) (d : Fin 64) :
    Cert.KernelIdeal.Swap.inV m c (ix2 k (feat h d))
      = m ((c : Thread nD τ).loc main_arg2) (ix4 (hi k) (lo k) h d) := by
  unfold Cert.KernelIdeal.Swap.inV feat hi lo
  blk_ext! [iblk, V, idx t0_0]

/-- A device's block of a pool, by its coordinates in the whole. -/
theorem pool_block (w : (⟨4, ![128, 16, 8, 64]⟩ : Shape).Idx → EReal) (c : Dev nD) (n : Fin 64)
    (i : Fin 16) (h : Fin 8) (d : Fin 64) :
    (Layout.blockN ⟨4, ![64, 16, 8, 64]⟩ ⟨4, ![128, 16, 8, 64]⟩
        (Layout.meshBlock [2, 4, 4] ![[0], [], [], []] c) w) (ix4 n i h d)
      = w (ix4 (Ask.at_ (half c) n) i h d) := by
  have h0 : Layout.meshLin [2, 4, 4] c.val [0] = c.val / 16 := by revert c; decide
  refine congrArg w (funext fun a => Fin.ext ?_)
  match a with
  | ⟨0, _⟩ =>
    show Layout.meshLin [2, 4, 4] c.val [0] * 64 + n.val = 64 * (c.val / 16) + n.val
    omega
  | ⟨1, _⟩ => exact (congrArg (· + i.val) (Nat.zero_mul 16)).trans (Nat.zero_add _)
  | ⟨2, _⟩ => exact (congrArg (· + h.val) (Nat.zero_mul 8)).trans (Nat.zero_add _)
  | ⟨3, _⟩ => exact (congrArg (· + d.val) (Nat.zero_mul 64)).trans (Nat.zero_add _)

end Cert.Paged
-- ==== Proof.PreRead.lean ====
module

public import proofs.«01_k».proof.Proof.KernelRead
public import proofs.«01_k».proof.Defs
public import Idealize.ShloMosaic.Lib.ReduceAll

/-!
# What the precondition says

The predicate on a device's arguments, read as statements about their elements.
-/

@[expose] public section

open Idealize.ShloMosaic
open scoped BigOperators
namespace Cert.Paged

/-- A number of magnitude less than infinity is a real number. -/
theorem real_of_bounded (x : EReal)
    (h : BitVec.ofBool (decide ((FloatOps.absf (F := Ideal) (φ := .f32) x : EReal)
      < Ideal.ofBits .f32 2139095040#32)) = 1#1) : ∃ r : ℝ, x = (r : EReal) := by
  have et : Ideal.ofBits .f32 2139095040#32 = ⊤ := by simp [Ideal.ofBits, Ideal.ieee]
  rw [WordCmp.ofBool_decide_eq_one_iff, et] at h
  have h' : max x (-x) < ⊤ := h
  obtain ⟨h1, h2⟩ := max_lt_iff.1 h'
  induction x using EReal.rec with
  | bot => exact absurd h2 (by simp)
  | coe r => exact ⟨r, rfl⟩
  | top => exact absurd h1 (by simp)

section
variable [Cert.Pre_proper_request_KernelIdeal.Facts]

/-- What the precondition says of one device's arguments. -/
theorem pre_reads (q : FVec Ideal ⟨4, ![8, 1, 8, 64]⟩ .f32) (k v : FVec Ideal ⟨4, ![64, 16, 8, 64]⟩ .f32)
    (t : IVec ⟨2, ![8, 64]⟩ 32) (l : IVec ⟨1, ![8]⟩ 32)
    (h : Cert.Pre_proper_request_KernelIdeal.fn (F := Ideal) q k v t l = fun _ => 1#1) :
    (∀ b j, (j.val : ℤ) < (l (ix1 b)).toInt → (t (ix2 b j)).toNat < 128)
      ∧ (∀ b, 0 < (l (ix1 b)).toInt) ∧ (∀ i, ∃ r : ℝ, q i = (r : EReal)) ∧ ∀ i, ∃ r : ℝ, k i = (r : EReal) := by
  replace h := congrFun h ix0
  dsimp only [Cert.Pre_proper_request_KernelIdeal.fn, Cert.Pre_proper_request_KernelIdeal.fn_part1] at h
  obtain ⟨h, h4⟩ := IntOp.andi_eq_one.1 h
  obtain ⟨h, h3⟩ := IntOp.andi_eq_one.1 h
  obtain ⟨h1, h2⟩ := IntOp.andi_eq_one.1 h
  clear * - h1 h2 h3 h4
  refine ⟨fun b j hl => ?_, fun b => ?_, fun i => ?_, fun i => ?_⟩
  · have e := Host.reduce_andi_all _ _ _ _ _ h1 (ix2 b j)
    pointwise at e
    rw [WordCmp.cmpi_slt_eq, WordCmp.toInt_ofNat_of_lt (by omega), decide_eq_true hl,
      WordCmp.andi_sge_zero_slt_ofNat (by decide)] at e
    revert e
    by_cases ht : (t (ix2 b j)).toNat < 128
    · exact fun _ => ht
    · rw [decide_eq_false ht]
      exact fun e => absurd e (by decide)
  · have e := Host.reduce_andi_all _ _ _ _ _ h2 (ix1 b)
    pointwise at e
    rw [WordCmp.cmpi_sgt_eq, WordCmp.ofBool_decide_eq_one_iff] at e
    exact e
  · have e := Host.reduce_andi_all _ _ _ _ _ h3 i
    pointwise at e
    exact real_of_bounded _ e
  · have e := Host.reduce_andi_all _ _ _ _ _ h4 i
    pointwise at e
    exact real_of_bounded _ e

end

end Cert.Paged
-- ==== Proof.RefValue.lean ====
module

public import proofs.«01_k».proof.Proof.Request
public import proofs.«01_k».proof.Proof.Gen.ReferenceIdeal.Read
public import Idealize.ShloMosaic.Lib.WordCmp

/-!
# What the reference computes

The reference's result at an index is the attention the request asks there.
-/

@[expose] public section

open Cert.ReferenceIdeal Cert.ReferenceIdeal.Gen Cert.ReferenceIdeal.Read
open Idealize.ShloMosaic
open scoped BigOperators

namespace Cert.Paged

attribute [local instance] Cert.ReferenceIdeal.Gen.facts

/-- A gather starts at zero along an axis its start indices do not name. -/
theorem start_zero {s si t : Shape} {w : Nat} (D : GatherDims s si t) (j : t.Idx) (idx : IVec si w)
    (a : Fin s.rank) (ha : a ∉ D.startIndexMap) : D.start j idx a = 0 := by
  unfold GatherDims.start
  exact dif_neg ha

/-- A gather starts at its start index, clamped, along an axis its start indices name. -/
theorem start_at {s si t : Shape} {w : Nat} (D : GatherDims s si t) (j : t.Idx) (idx : IVec si w)
    (a : Fin s.rank) (ha : a ∈ D.startIndexMap) : D.start j idx a
      = min (idx (D.siIdx j ⟨D.startIndexMap.idxOf a, List.idxOf_lt_length_iff.2 ha⟩)).toInt.toNat
          (s.size a - D.sliceSizes a) := by
  unfold GatherDims.start
  exact dif_pos ha

/-- The coordinate a gather adds along a kept axis is the result's along the matching one. -/
theorem offset_at {s si t : Shape} (D : GatherDims s si t) (j : t.Idx) (a : Fin s.rank)
    (ha : a ∈ D.sKept) : D.offCoord j a
      = (j (D.offsetDims[D.sKept.idxOf a]'(by rw [D.offset_length]; exact List.idxOf_lt_length_iff.2 ha))).val := by
  unfold GatherDims.offCoord
  exact dif_pos ha

/-- The page gather at an index: the page the start index names, read signed and clamped. -/
theorem gather_apply (x : S128x16x8x64.Idx → EReal) (idx : IVec S8x64x1 32) (b : Fin 8) (j : Fin 64)
    (i : Fin 16) (h : Fin 8) (d : Fin 64) :
    Host.gather gather_S128x16x8x64_S8x64x1_S8x64x16x8x64_234_0_n_n_0_2_116864 x idx (ix5 b j i h d)
      = x (ix4 ⟨min (idx (ix3 b j 0)).toInt.toNat 127, by omega⟩ i h d) := by
  unfold Host.gather
  congr 1
  funext a
  refine Fin.ext ?_
  generalize hD : gather_S128x16x8x64_S8x64x1_S8x64x16x8x64_234_0_n_n_0_2_116864 = D
  show D.start (ix5 b j i h d) idx a + D.batchCoord (ix5 b j i h d) a + D.offCoord (ix5 b j i h d) a = _
  subst hD
  rw [GatherDims.batchCoord_eq_zero _ _ _ List.not_mem_nil]
  match a with
  | ⟨0, _⟩ =>
    rw [GatherDims.offCoord_eq_zero _ _ _
      (fun h => ((GatherDims.mem_sKept _ _).mp h).1 (List.mem_singleton.mpr rfl))]
    simp only [Nat.add_zero]
    have hsi : gather_S128x16x8x64_S8x64x1_S8x64x16x8x64_234_0_n_n_0_2_116864.siIdx (ix5 b j i h d)
        ⟨List.idxOf (0 : Fin 4) gather_S128x16x8x64_S8x64x1_S8x64x16x8x64_234_0_n_n_0_2_116864.startIndexMap,
          List.idxOf_lt_length_iff.2 (List.mem_singleton.mpr rfl)⟩ = ix3 b j 0 := by
      funext b; refine Fin.ext ?_
      match b with
      | ⟨0, _⟩ => rfl
      | ⟨1, _⟩ => rfl
      | ⟨2, _⟩ => rfl
    exact (start_at gather_S128x16x8x64_S8x64x1_S8x64x16x8x64_234_0_n_n_0_2_116864 (ix5 b j i h d) idx
      (0 : Fin 4) (List.mem_singleton.mpr rfl)).trans (congrArg (fun q => min (idx q).toInt.toNat 127) hsi)
  | ⟨1, _⟩ =>
    rw [start_zero _ _ _ _ (show (1 : Fin 4) ∉ [(0 : Fin 4)] by decide), Nat.zero_add]
    exact offset_at gather_S128x16x8x64_S8x64x1_S8x64x16x8x64_234_0_n_n_0_2_116864 (ix5 b j i h d) (1 : Fin 4) (by decide)
  | ⟨2, _⟩ =>
    rw [start_zero _ _ _ _ (show (2 : Fin 4) ∉ [(0 : Fin 4)] by decide), Nat.zero_add]
    exact offset_at gather_S128x16x8x64_S8x64x1_S8x64x16x8x64_234_0_n_n_0_2_116864 (ix5 b j i h d) (2 : Fin 4) (by decide)
  | ⟨3, _⟩ =>
    rw [start_zero _ _ _ _ (show (3 : Fin 4) ∉ [(0 : Fin 4)] by decide), Nat.zero_add]
    exact offset_at gather_S128x16x8x64_S8x64x1_S8x64x16x8x64_234_0_n_n_0_2_116864 (ix5 b j i h d) (3 : Fin 4) (by decide)

variable {R : Request}

/-- The index the reference gathers at, where the entry is live. -/
theorem start_live (hR : R.Proper) (b : Fin 8) (j : Fin 64) (hl : R.live b j) :
    val_main_v5 (F := Ideal) R.table (ix3 b j 0) = R.table (ix2 b j) := by
  have hn := hR.named b j hl
  have hi : idx_main_v5 (ix3 b j 0) = ix2 b j := by
    funext a; match a with | ⟨0, _⟩ => rfl | ⟨1, _⟩ => rfl
  rw [val_main_v5_apply, hi, val_main_v4_apply, val_main_v1_apply, val_main_v0_apply, val_main_c_apply,
    WordCmp.cmpi_slt_zero]
  have : ¬ 2 ^ (32 - 1) ≤ (R.table (ix2 b j)).toNat := by omega
  rw [decide_eq_false this]
  rfl

theorem start_live' (hR : R.Proper) (b : Fin 8) (j : Fin 64) (hl : R.live b j) :
    val_main_v13 (F := Ideal) R.table (ix3 b j 0) = R.table (ix2 b j) := start_live hR b j hl

theorem clamp_live (hR : R.Proper) (b : Fin 8) (j : Fin 64) (hl : R.live b j) :
    min (R.table (ix2 b j)).toInt.toNat 127 = (R.page b j).val := by
  have hn := hR.named b j hl
  rw [WordCmp.toInt_eq_toNat_of_lt_half (by omega)]
  show _ = (R.table (ix2 b j)).toNat % 128
  omega

/-- A gathered row of keys or values, where its entry is live. -/
theorem pool_row (k : Fin 1024) (b h : Fin 8) (d : Fin 64) :
    idx_main_v7 (ix4 b k h d) = ix5 b (hi k) (lo k) h d := by
  funext a
  have := b.isLt; have := k.isLt; have := h.isLt; have := d.isLt
  refine Fin.ext ?_
  match a with
  | ⟨0, _⟩ => show (((b.val * 1024 + k.val) * 8 + h.val) * 64 + d.val) / 524288 = b.val; omega
  | ⟨1, _⟩ => show (((b.val * 1024 + k.val) * 8 + h.val) * 64 + d.val) / 8192 % 64 = k.val / 16; omega
  | ⟨2, _⟩ => show (((b.val * 1024 + k.val) * 8 + h.val) * 64 + d.val) / 512 % 16 = k.val % 16; omega
  | ⟨3, _⟩ => show (((b.val * 1024 + k.val) * 8 + h.val) * 64 + d.val) / 64 % 8 = h.val; omega
  | ⟨4, _⟩ => show (((b.val * 1024 + k.val) * 8 + h.val) * 64 + d.val) % 64 = d.val; omega

theorem keys_live (hR : R.Proper) (b : Fin 8) (k : Fin 1024) (h : Fin 8) (d : Fin 64)
    (hl : R.live b (hi k)) :
    val_main_v7 (F := Ideal) R.K R.table (ix4 b k h d) = R.K (ix4 (R.page b (hi k)) (lo k) h d) := by
  rw [val_main_v7_apply, pool_row]
  unfold val_main_v6
  rw [gather_apply]
  congr 2
  exact Fin.ext ((congrArg (fun w => min (BitVec.toInt w).toNat 127) (start_live hR b _ hl)).trans
    (clamp_live hR b _ hl))

theorem values_live (hR : R.Proper) (b : Fin 8) (k : Fin 1024) (h : Fin 8) (d : Fin 64)
    (hl : R.live b (hi k)) :
    val_main_v15 (F := Ideal) R.V R.table (ix4 b k h d) = R.V (ix4 (R.page b (hi k)) (lo k) h d) := by
  rw [val_main_v15_apply, show idx_main_v15 (ix4 b k h d) = _ from pool_row k b h d]
  unfold val_main_v14
  rw [gather_apply]
  congr 2
  exact Fin.ext ((congrArg (fun w => min (BitVec.toInt w).toNat 127) (start_live' hR b _ hl)).trans
    (clamp_live hR b _ hl))

/-- The mask of live entries, row by row. -/
theorem mask_apply (b h : Fin 8) (k : Fin 1024) :
    val_main_call0_v1 (F := Ideal) R.lens (ix4 b h 0 k)
      = BitVec.ofBool (decide (R.live b (hi k))) := by
  have hk := k.isLt
  have hb := b.isLt
  rw [val_main_call0_v1_apply, val_main_v27_apply, val_main_v23_apply, val_main_v22_apply,
    val_main_v21_apply, val_main_v19_apply, val_main_v17_apply, val_main_v16_apply,
    val_main_v20_apply, val_main_v18_apply, WordCmp.cmpi_slt_eq]
  have e1 : (b.val * 1024 + k.val) / 16 % 64 = k.val / 16 := by omega
  have e0 : (b.val * 1024 + k.val) / 1024 = b.val := by omega
  have hj : (BitVec.ofNat 32 ((b.val * 1024 + k.val) / 16 % 64)).toInt = ((hi k).val : ℤ) := by
    rw [WordCmp.toInt_ofNat_of_lt (by omega), e1]; rfl
  refine congrArg BitVec.ofBool (decide_eq_decide.2 ?_)
  have h1 : (idx_main_v17 (idx_main_v19 (idx_main_v22 (idx_main_v23 (idx_main_v27
      (idx_main_call0_v1 (ix4 b h 0 k)))))) 0).val = (b.val * 1024 + k.val) / 16 % 64 := rfl
  have h2 : idx_main_v18 (idx_main_v20 (idx_main_v22 (idx_main_v23 (idx_main_v27
      (idx_main_call0_v1 (ix4 b h 0 k)))))) = ix1 b := by
    funext a
    match a with
    | ⟨0, _⟩ => exact Fin.ext e0
  rw [h1, h2, hj]
  exact Iff.rfl

/-- The masked scores. -/
theorem masked_apply (hR : R.Proper) (b h : Fin 8) (k : Fin 1024) :
    val_main_v28 (F := Ideal) R.Q R.K R.table R.lens (ix4 b h 0 k) = (hR.ask b h).masked k := by
  rw [val_main_v28_apply, mask_apply]
  unfold Ask.masked
  by_cases hl : R.live b (hi k)
  · rw [if_pos (show (hR.ask b h).live (hi k) from hl), decide_eq_true hl]
    show val_main_v26 (F := Ideal) R.Q R.K R.table (ix4 b h 0 k) = (R.score b h (R.page b (hi k)) (lo k) : EReal)
    rw [val_main_v26_apply, val_main_v24_apply, val_main_v25_apply, val_main_cst_apply, ← hR.score_eq]
    show _ * eighth = _ * eighth
    refine congrArg (· * eighth) (Finset.sum_congr rfl fun d _ => ?_)
    have e1 : lidx_main_v24 (ix4 b h 0 k) d = ix4 b 0 h d := by
      funext a; match a with | ⟨0, _⟩ => rfl | ⟨1, _⟩ => rfl | ⟨2, _⟩ => rfl | ⟨3, _⟩ => rfl
    have e2 : ridx_main_v24 (ix4 b h 0 k) d = ix4 b k h d := by
      funext a; match a with | ⟨0, _⟩ => rfl | ⟨1, _⟩ => rfl | ⟨2, _⟩ => rfl | ⟨3, _⟩ => rfl
    rw [e1, e2, keys_live hR b k h d hl]
  · rw [if_neg (show ¬ (hR.ask b h).live (hi k) from hl), decide_eq_false hl]
    show val_main_call0_v2 (F := Ideal) (ix4 b h 0 k) = ⊥
    rw [val_main_call0_v2_apply, val_main_call0_v0_apply, val_main_cst_3_apply]
    simp [Ideal.ofBits, Ideal.ieee]

/-- The largest masked score. -/
theorem largest_apply (hR : R.Proper) (b h : Fin 8) :
    val_main_v29 (F := Ideal) R.Q R.K R.table R.lens (ix3 b h 0)
      = Finset.univ.fold max (⊥ : EReal) (hR.ask b h).masked := by
  unfold val_main_v29
  have e : val_main_v28 (F := Ideal) R.Q R.K R.table R.lens
      = fun i => val_main_v28 (F := Ideal) R.Q R.K R.table R.lens i := rfl
  have hb : (val_main_cst_4 (F := Ideal)) (Shape.Idx.first h_S_) = (⊥ : EReal) := by
    rw [val_main_cst_4_apply]; simp [Ideal.ofBits, Ideal.ieee]
  have hm : ∀ k, val_main_v28 (F := Ideal) R.Q R.K R.table R.lens (ix4 b h 0 k) = (hR.ask b h).masked k :=
    masked_apply hR b h
  generalize val_main_v28 (F := Ideal) R.Q R.K R.table R.lens = y at hm
  generalize val_main_cst_4 (F := Ideal) = z at hb
  simp only [pointwise]
  rw [hb]
  exact congrArg (Finset.univ.fold max (⊥ : EReal)) (funext fun k => hm k)

/-- The exponentials. -/
theorem exps_apply (hR : R.Proper) (b h : Fin 8) (k : Fin 1024) :
    val_main_v33 (F := Ideal) R.Q R.K R.table R.lens (ix4 b h 0 k)
      = Ideal.exp ((hR.ask b h).masked k - Finset.univ.fold max (⊥ : EReal) (hR.ask b h).masked) := by
  rw [val_main_v33_apply, val_main_v32_apply, masked_apply hR, val_main_v31_apply, val_main_v30_apply]
  have e : idx_main_v30 (idx_main_v31 (ix4 b h 0 k)) = ix3 b h 0 := by
    funext a; match a with | ⟨0, _⟩ => rfl | ⟨1, _⟩ => rfl | ⟨2, _⟩ => rfl
  rw [e, largest_apply hR]
  rfl

/-- The reference's result at an index is the attention the request asks there. -/
theorem reference_value (hR : R.Proper) (b h : Fin 8) (d : Fin 64) :
    val_main_v39 (F := Ideal) R.Q R.K R.V R.table R.lens (ix4 b 0 h d)
      = (hR.ask b h).answer (R.col h d) := by
  have e : idx_main_v39 (ix4 b 0 h d) = ix4 b h d 0 := by
    funext a; match a with | ⟨0, _⟩ => rfl | ⟨1, _⟩ => rfl | ⟨2, _⟩ => rfl | ⟨3, _⟩ => rfl
  rw [val_main_v39_apply, e, val_main_v38_apply,
    ← (hR.ask b h).by_entries (R.col h d)
      (fun k => val_main_v15 (F := Ideal) R.V R.table (ix4 b k h d))
      (fun k hl => values_live hR b k h d hl)]
  refine Finset.sum_congr rfl fun k _ => ?_
  have e1 : lidx_main_v38 (ix4 b h d 0) k = ix4 b k h d := by
    funext a; match a with | ⟨0, _⟩ => rfl | ⟨1, _⟩ => rfl | ⟨2, _⟩ => rfl | ⟨3, _⟩ => rfl
  have e2 : ridx_main_v38 (ix4 b h d 0) k = ix4 b h 0 k := by
    funext a; match a with | ⟨0, _⟩ => rfl | ⟨1, _⟩ => rfl | ⟨2, _⟩ => rfl | ⟨3, _⟩ => rfl
  rw [e1, e2, val_main_v37_apply, exps_apply hR, val_main_v36_apply, val_main_v35_apply, val_main_v34_apply]
  have hz : (val_main_cst_5 (F := Ideal)) (Shape.Idx.first h_S_) = (0 : EReal) := by
    rw [val_main_cst_5_apply]; exact Ideal.ofBits_zero_f32
  rw [hz, zero_add]
  have e3 : ∀ k' : Fin 1024, idx_main_v34 (idx_main_v35 (idx_main_v36 (ix4 b h 0 k))) k' = ix4 b h 0 k' := by
    intro k'; funext a; match a with | ⟨0, _⟩ => rfl | ⟨1, _⟩ => rfl | ⟨2, _⟩ => rfl | ⟨3, _⟩ => rfl
  simp only [e3, exps_apply hR]
  rfl

end Cert.Paged
-- ==== Proof.Value.lean ====
module

public import proofs.«01_k».proof.Proof.PreRead
public import proofs.«01_k».proof.Proof.RefValue
public import proofs.«01_k».proof.Proof.Frames
public import proofs.«01_k».proof.Proof.Gen.Pre_proper_request_KernelIdeal
public import proofs.«01_k».proof.Proof.Gen.Pre_proper_request_ReferenceIdeal
public import proofs.«01_k».proof.Proof.Gen.ReferenceIdeal.Read

/-!
# The kernel computes the reference

From any launch whose arguments are a proper request laid out over the mesh, every device's result is
the reference's.
-/

@[expose] public section

open Idealize.ShloMosaic Idealize.ShloMosaic.TcCoe Idealize.SL.Sem
open scoped BigOperators
namespace Cert.Paged
attribute [local instance] Cert.KernelIdeal.Gen.facts Cert.ReferenceIdeal.Gen.facts
  Cert.Pre_proper_request_KernelIdeal.Gen.facts

/-- The request the reference is launched with. -/
noncomputable def request (m' : (ℓ : Loc Cert.ReferenceIdeal.nD Cert.ReferenceIdeal.τ Cert.ReferenceIdeal.sig) →
    Buf (Elt Ideal) ℓ) : Request where
  Q := m' (((0 : Dev Cert.ReferenceIdeal.nD).tc : Thread Cert.ReferenceIdeal.nD Cert.ReferenceIdeal.τ).loc Cert.ReferenceIdeal.main_arg0)
  K := m' (((0 : Dev Cert.ReferenceIdeal.nD).tc : Thread Cert.ReferenceIdeal.nD Cert.ReferenceIdeal.τ).loc Cert.ReferenceIdeal.main_arg1)
  V := m' (((0 : Dev Cert.ReferenceIdeal.nD).tc : Thread Cert.ReferenceIdeal.nD Cert.ReferenceIdeal.τ).loc Cert.ReferenceIdeal.main_arg2)
  table := m' (((0 : Dev Cert.ReferenceIdeal.nD).tc : Thread Cert.ReferenceIdeal.nD Cert.ReferenceIdeal.τ).loc Cert.ReferenceIdeal.main_arg3)
  lens := m' (((0 : Dev Cert.ReferenceIdeal.nD).tc : Thread Cert.ReferenceIdeal.nD Cert.ReferenceIdeal.τ).loc Cert.ReferenceIdeal.main_arg4)

/-- A device of the first half and one of the second. -/
def keeper (x : Fin 2) : Dev Cert.KernelIdeal.nD := ⟨16 * x.val, by have := x.isLt; show _ < 32; omega⟩

theorem half_keeper (x : Fin 2) : half (keeper x) = x := by revert x; decide

/-- Every page is one some device keeps. -/
theorem kept (p : Fin 128) : ∃ x n, Ask.at_ x n = p :=
  ⟨⟨p.val / 64, by omega⟩, ⟨p.val % 64, by omega⟩, Fin.ext (by simp only [Ask.at_]; omega)⟩

theorem algebraic : Cert.algebraic_KernelIdeal_ReferenceIdeal_pre_proper_request_KernelIdeal := by
  intro m g m' g' hpre harg
  have pre := fun c => pre_reads _ _ _ _ _ (hpre c)
  have hR : (request m').Proper := by
    have a := harg (keeper 0)
    have p := pre (keeper 0)
    refine ⟨fun i => ?_, fun i => ?_, fun b => ?_, fun b j hl => ?_⟩
    · have := p.2.2.1 i
      rw [a.1] at this
      exact this
    · obtain ⟨pg, w, h, d, rfl⟩ : ∃ pg w h d, i = ix4 pg w h d := ⟨_, _, _, _, eq_ix4 i⟩
      obtain ⟨x, n, rfl⟩ := kept pg
      have := (pre (keeper x)).2.2.2 (ix4 n w h d)
      rw [(harg (keeper x)).2.1] at this
      obtain ⟨r, hr⟩ := this
      exact ⟨r, by rw [← hr, pool_block, half_keeper]; rfl⟩
    · have := p.2.1 b
      rw [a.2.2.2.2] at this
      exact this
    · have := p.1 b j
      rw [a.2.2.2.2, a.2.2.2.1] at this
      exact this hl
  have H : ∀ c, Holds (request m') (half c) (Cert.KernelIdeal.Swap.inQ m c)
      (Cert.KernelIdeal.Swap.inK m c) (Cert.KernelIdeal.Swap.inV m c)
      (Cert.KernelIdeal.Swap.inT m c) (Cert.KernelIdeal.Swap.inL m c) := by
    intro c
    obtain ⟨aQ, aK, aV, aT, aL⟩ := harg c
    refine ⟨fun b h d => ?_, fun k h d => ?_, fun k h d => ?_, fun b j => ?_, fun b => ?_⟩
    · rw [inQ_eq]; exact congrFun aQ _
    · rw [inK_eq]; exact (congrFun aK _).trans (pool_block _ c _ _ _ _)
    · rw [inV_eq]; exact (congrFun aV _).trans (pool_block _ c _ _ _ _)
    · rw [inT_eq]; exact congrFun aT _
    · rw [inL_eq]; exact congrFun aL _
  refine ⟨Cert.ReferenceIdeal.Value.res_main_v39 (F := Ideal) m' 0, ?_, ?_⟩
  · refine (θ_run (Cert.KernelIdeal.defs (F := Ideal)) _ _).mono (fun r h c => ⟨?_, (h.1 c).1⟩)
      (Cert.KernelIdeal.Swap.run_main (F := Ideal) m g)
    refine (h.1 c).2.trans ?_
    rw [Cert.ReferenceIdeal.Read.val_main_v39_eq]
    funext i
    obtain ⟨b, z, hd, d, rfl⟩ : ∃ b z hd d, i = ix4 b z hd d := ⟨_, _, _, _, eq_ix4 i⟩
    obtain rfl : z = 0 := Subsingleton.elim _ _
    exact (merged_at m hR H c b hd d).trans (reference_value hR b hd d).symm
  · exact (θ_run (Cert.ReferenceIdeal.defs (F := Ideal)) _ _).mono (fun r h => h 0)
      (Cert.ReferenceIdeal.Value.run (F := Ideal) m' g')

end Cert.Paged
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_proper_request_KernelIdeal
public import proofs.«01_k».proof.Proof.Gen.Pre_proper_request_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything claimed: the three frames, that the printed kernel is the idealized one's, and that the
    kernel computes the reference on proper requests. -/
theorem claim : Cert.Claim := ⟨Cert.Kernel.Gen.facts, Cert.KernelIdeal.Gen.facts, Cert.ReferenceIdeal.Gen.facts,
  Cert.Pre_proper_request_KernelIdeal.Gen.facts, Cert.Pre_proper_request_ReferenceIdeal.Gen.facts,
  frame_kernel, frame_ideal, fun m ρ _ => frame_ideal m ρ trivial, frame_reference,
  fun m ρ _ => frame_reference m ρ trivial, trivial, Cert.Paged.algebraic⟩

end Cert.Proof

end
